-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt_dh" .f32 0x3DB504F3#32 (((Real.sqrt 128)⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S1x128 : Shape := ⟨2, ![1, 128]⟩
abbrev S1 : Shape := ⟨1, ![1]⟩
abbrev S2x2048x16x128 : Shape := ⟨4, ![2, 2048, 16, 128]⟩
abbrev S2x16x2048x128 : Shape := ⟨4, ![2, 16, 2048, 128]⟩
abbrev S1x1x1x128 : Shape := ⟨4, ![1, 1, 1, 128]⟩
abbrev S_ : Shape := ⟨0, ![]⟩
abbrev S128x1 : Shape := ⟨2, ![128, 1]⟩
abbrev S2x16x2048x1 : Shape := ⟨4, ![2, 16, 2048, 1]⟩
abbrev S1x1x1x1 : Shape := ⟨4, ![1, 1, 1, 1]⟩
abbrev S2x16x2048 : Shape := ⟨3, ![2, 16, 2048]⟩
abbrev S2x16 : Shape := ⟨2, ![2, 16]⟩
abbrev S2x16x1 : Shape := ⟨3, ![2, 16, 1]⟩
abbrev S2x16x1x2048 : Shape := ⟨4, ![2, 16, 1, 2048]⟩
abbrev S2x16x2048x2048 : Shape := ⟨4, ![2, 16, 2048, 2048]⟩
abbrev S2x16x1x1 : Shape := ⟨4, ![2, 16, 1, 1]⟩

class Facts : Prop where
  transposes_S2048x2048_S2048x2048_1_0 : S2048x2048.Transposes [1, 0] S2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  transposes_S128x128_S128x128_1_0 : S128x128.Transposes [1, 0] S128x128
  bcast_S128_S1x1x1x128_3 : S128.BroadcastsInDim S1x1x1x128 (![3] : Fin 1 → Fin S1x1x1x128.rank)
  bcast_S1x1x1x128_S2x16x2048x128_0_1_2_3 : S1x1x1x128.BroadcastsInDim S2x16x2048x128 (![0, 1, 2, 3] : Fin 4 → Fin S2x16x2048x128.rank)
  bcast_S_S2x16x2048x128 : S_.BroadcastsInDim S2x16x2048x128 (![] : Fin 0 → Fin S2x16x2048x128.rank)
  transposes_S1x128_S128x1_1_0 : S1x128.Transposes [1, 0] S128x1
  bcast_S1_S1x1x1x1_3 : S1.BroadcastsInDim S1x1x1x1 (![3] : Fin 1 → Fin S1x1x1x1.rank)
  bcast_S1x1x1x1_S2x16x2048x1_0_1_2_3 : S1x1x1x1.BroadcastsInDim S2x16x2048x1 (![0, 1, 2, 3] : Fin 4 → Fin S2x16x2048x1.rank)
  shapeCasts_S2x16x2048x1_S2x16x2048 : S2x16x2048x1.ShapeCasts S2x16x2048
  reducesTo_S2x16x2048_S2x16_d2 : S2x16x2048.ReducesTo [2] S2x16
  h_S_ : 0 < S_.numel
  bcast_S2x16_S2x16x1_0_1 : S2x16.BroadcastsInDim S2x16x1 (![0, 1] : Fin 2 → Fin S2x16x1.rank)
  bcast_S_S2x16x1 : S_.BroadcastsInDim S2x16x1 (![] : Fin 0 → Fin S2x16x1.rank)
  bcast_S2x16x2048_S2x16x1x2048_0_1_3 : S2x16x2048.BroadcastsInDim S2x16x1x2048 (![0, 1, 3] : Fin 3 → Fin S2x16x1x2048.rank)
  bcast_S2x16x2048_S2x16x2048x1_0_1_2 : S2x16x2048.BroadcastsInDim S2x16x2048x1 (![0, 1, 2] : Fin 3 → Fin S2x16x2048x1.rank)
  bcast_S2x16x1x2048_S2x16x2048x2048_0_1_2_3 : S2x16x1x2048.BroadcastsInDim S2x16x2048x2048 (![0, 1, 2, 3] : Fin 4 → Fin S2x16x2048x2048.rank)
  bcast_S2x16x2048x1_S2x16x2048x2048_0_1_2_3 : S2x16x2048x1.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  bcast_S2x16x1_S2x16x1x1_0_1_2 : S2x16x1.BroadcastsInDim S2x16x1x1 (![0, 1, 2] : Fin 3 → Fin S2x16x1x1.rank)
  bcast_S2x16x1x1_S2x16x2048x2048_0_1_2_3 : S2x16x1x1.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x1_S2x16x2048_0_1_2 : S2x16x1.BroadcastsInDim S2x16x2048 (![0, 1, 2] : Fin 3 → Fin S2x16x2048.rank)
  dot_S2x2048x2048_S2048x2048_S2x2048x2048_2_0_01_1_n_n_wf : DotDims.WF S2x2048x2048 S2048x2048 S2x2048x2048 [2] [0] [0, 1] [1] [] []
  dot_S2x16x2048x128_S128x128_S2x16x2048x128_3_0_012_1_n_n_wf : DotDims.WF S2x16x2048x128 S128x128 S2x16x2048x128 [3] [0] [0, 1, 2] [1] [] []
  dot_S2x16x2048x128_S128x1_S2x16x2048x1_3_0_012_1_n_n_wf : DotDims.WF S2x16x2048x128 S128x1 S2x16x2048x1 [3] [0] [0, 1, 2] [1] [] []

variable [Facts]

def dot_S2x2048x2048_S2048x2048_S2x2048x2048_2_0_01_1_n_n : DotDims S2x2048x2048 S2048x2048 S2x2048x2048 where
  lhsContracting := [2]
  rhsContracting := [0]
  lhsNonContracting := [0, 1]
  rhsNonContracting := [1]
  lhsBatch := []
  rhsBatch := []
  wf := dot_S2x2048x2048_S2048x2048_S2x2048x2048_2_0_01_1_n_n_wf
def dot_S2x16x2048x128_S128x128_S2x16x2048x128_3_0_012_1_n_n : DotDims S2x16x2048x128 S128x128 S2x16x2048x128 where
  lhsContracting := [3]
  rhsContracting := [0]
  lhsNonContracting := [0, 1, 2]
  rhsNonContracting := [1]
  lhsBatch := []
  rhsBatch := []
  wf := dot_S2x16x2048x128_S128x128_S2x16x2048x128_3_0_012_1_n_n_wf
def dot_S2x16x2048x128_S128x1_S2x16x2048x1_3_0_012_1_n_n : DotDims S2x16x2048x128 S128x1 S2x16x2048x1 where
  lhsContracting := [3]
  rhsContracting := [0]
  lhsNonContracting := [0, 1, 2]
  rhsNonContracting := [1]
  lhsBatch := []
  rhsBatch := []
  wf := dot_S2x16x2048x128_S128x1_S2x16x2048x1_3_0_012_1_n_n_wf
def fn_part2 {F : FTy → Type} [FloatOps F] (main_v25 : IVec S2x16x1 1) (main_v30 : FVec F S2x16x1 .f32) (main_v35 : FVec F S2x16x2048x2048 .f32) (main_v37 : IVec S2x16x2048x2048 1) (main_v38 : FVec F S2x16x2048x2048 .f32) (main_v39 : FVec F S2x16x1x1 .f32) : IVec S2x16x2048x2048 1 :=
  let main_v40 : FVec F S2x16x2048x2048 .f32 := broadcastInDim S2x16x2048x2048 ![0, 1, 2, 3] bcast_S2x16x1x1_S2x16x2048x2048_0_1_2_3 main_v39
  let main_v41 : IVec S2x16x2048x2048 1 := cmpf .oge main_v38 main_v40
  let main_v42 : IVec S2x16x2048x2048 1 := ori main_v37 main_v41
  let main_cst_7 : FVec F S_ .f32 := constant S_ .f32 0x00000000#32
  let main_v43 : FVec F S2x16x2048x2048 .f32 := broadcastInDim S2x16x2048x2048 ![] bcast_S_S2x16x2048x2048 main_cst_7
  let main_v44 : FVec F S2x16x2048x2048 .f32 := maximumf main_v35 main_v43
  let main_cst_8 : FVec F S_ .f32 := constant S_ .f32 0x00000000#32
  let main_v45 : FVec F S2x16x2048 .f32 := (fun x v => Host.reduceAdd x v reducesTo_S2x16x2048x2048_S2x16x2048_d3 h_S_) main_v44 main_cst_8
  let main_cst_9 : FVec F S_ .f32 := constant S_ .f32 0x43000000#32
  let main_v46 : FVec F S2x16x2048 .f32 := broadcastInDim S2x16x2048 ![] bcast_S_S2x16x2048 main_cst_9
  let main_v47 : FVec F S2x16x2048 .f32 := subf main_v45 main_v46
  let main_v48 : FVec F S2x16x2048 .f32 := Host.absf main_v47
  let main_cst_10 : FVec F S_ .f32 := constant S_ .f32 0x45000000#32
  let main_v49 : FVec F S2x16x1 .f32 := broadcastInDim S2x16x1 ![] bcast_S_S2x16x1 main_cst_10
  let main_v50 : FVec F S2x16x1 .f32 := mulf main_v30 main_v49
  let main_v51 : FVec F S2x16x2048 .f32 := broadcastInDim S2x16x2048 ![0, 1, 2] bcast_S2x16x1_S2x16x2048_0_1_2 main_v50
  let main_v52 : IVec S2x16x2048 1 := cmpf .oge main_v48 main_v51
  let main_v53 : IVec S2x16x2048 1 := broadcastInDim S2x16x2048 ![0, 1, 2] bcast_S2x16x1_S2x16x2048_0_1_2 main_v25
  let main_v54 : IVec S2x16x2048 1 := andi main_v53 main_v52
  let main_v55 : IVec S2x16x2048x1 1 := broadcastInDim S2x16x2048x1 ![0, 1, 2] bcast_S2x16x2048_S2x16x2048x1_0_1_2 main_v54
  let main_v56 : IVec S2x16x2048x2048 1 := broadcastInDim S2x16x2048x2048 ![0, 1, 2, 3] bcast_S2x16x2048x1_S2x16x2048x2048_0_1_2_3 main_v55
  let main_v57 : IVec S2x16x2048x2048 1 := andi main_v42 main_v56
  main_v57

def fn_part1 {F : FTy → Type} [FloatOps F] (main_v16 : FVec F S2x16x2048 .f32) (main_v18 : FVec F S2x16x1 .f32) (main_v20 : FVec F S2x16x1 .f32) : IVec S2x16x2048x2048 1 :=
  let main_cst_2 : FVec F S_ .f32 := constant S_ .f32 0x7F800000#32
  let main_v21 : FVec F S2x16x1 .f32 := broadcastInDim S2x16x1 ![] bcast_S_S2x16x1 main_cst_2
  let main_v22 : IVec S2x16x1 1 := cmpf .olt main_v18 main_v21
  let main_cst_3 : FVec F S_ .f32 := constant S_ .f32 0xFF800000#32
  let main_v23 : FVec F S2x16x1 .f32 := broadcastInDim S2x16x1 ![] bcast_S_S2x16x1 main_cst_3
  let main_v24 : IVec S2x16x1 1 := cmpf .ogt main_v20 main_v23
  let main_v25 : IVec S2x16x1 1 := andi main_v22 main_v24
  let main_v26 : FVec F S2x16x1 .f32 := subf main_v18 main_v20
  let main_cst_4 : FVec F S_ .f32 := constant S_ .f32 0x3F800000#32
  let main_v27 : FVec F S2x16x1 .f32 := broadcastInDim S2x16x1 ![] bcast_S_S2x16x1 main_cst_4
  let main_v28 : FVec F S2x16x1 .f32 := addf main_v26 main_v27
  let main_cst_5 : FVec F S_ .f32 := constant S_ .f32 0x2B800000#32
  let main_v29 : FVec F S2x16x1 .f32 := broadcastInDim S2x16x1 ![] bcast_S_S2x16x1 main_cst_5
  let main_v30 : FVec F S2x16x1 .f32 := mulf main_v28 main_v29
  let main_v31 : FVec F S2x16x1x2048 .f32 := broadcastInDim S2x16x1x2048 ![0, 1, 3] bcast_S2x16x2048_S2x16x1x2048_0_1_3 main_v16
  let main_v32 : FVec F S2x16x2048x1 .f32 := broadcastInDim S2x16x2048x1 ![0, 1, 2] bcast_S2x16x2048_S2x16x2048x1_0_1_2 main_v16
  let main_v33 : FVec F S2x16x2048x2048 .f32 := broadcastInDim S2x16x2048x2048 ![0, 1, 2, 3] bcast_S2x16x1x2048_S2x16x2048x2048_0_1_2_3 main_v31
  let main_v34 : FVec F S2x16x2048x2048 .f32 := broadcastInDim S2x16x2048x2048 ![0, 1, 2, 3] bcast_S2x16x2048x1_S2x16x2048x2048_0_1_2_3 main_v32
  let main_v35 : FVec F S2x16x2048x2048 .f32 := subf main_v33 main_v34
  let main_cst_6 : FVec F S_ .f32 := constant S_ .f32 0x00000000#32
  let main_v36 : FVec F S2x16x2048x2048 .f32 := broadcastInDim S2x16x2048x2048 ![] bcast_S_S2x16x2048x2048 main_cst_6
  let main_v37 : IVec S2x16x2048x2048 1 := cmpf .oeq main_v35 main_v36
  let main_v38 : FVec F S2x16x2048x2048 .f32 := Host.absf main_v35
  let main_v39 : FVec F S2x16x1x1 .f32 := broadcastInDim S2x16x1x1 ![0, 1, 2] bcast_S2x16x1_S2x16x1x1_0_1_2 main_v30
  fn_part2 (F := F) main_v25 main_v30 main_v35 main_v37 main_v38 main_v39

def fn {F : FTy → Type} [FloatOps F] (main_arg0 : FVec F S2x2048x2048 .f32) (main_arg1 : FVec F S2048x2048 .f32) (main_arg2 : FVec F S2048x2048 .f32) (main_arg3 : FVec F S2048x2048 .f32) (main_arg4 : FVec F S2048x2048 .f32) (main_arg5 : FVec F S128x128 .f32) (main_arg6 : FVec F S128 .f32) (main_arg7 : FVec F S1x128 .f32) (main_arg8 : FVec F S1 .f32) : IVec S2x16x2048x2048 1 :=
  let main_v0 : FVec F S2048x2048 .f32 := (transpose S2048x2048 [1, 0] · transposes_S2048x2048_S2048x2048_1_0) main_arg2
  let main_v1 : FVec F S2x2048x2048 .f32 := (fun l r => Host.dotGeneral dot_S2x2048x2048_S2048x2048_S2x2048x2048_2_0_01_1_n_n none l r) main_arg0 main_v0
  let main_v2 : FVec F S2x2048x16x128 .f32 := shapeCast S2x2048x16x128 main_v1 shapeCasts_S2x2048x2048_S2x2048x16x128
  let main_v3 : FVec F S2x16x2048x128 .f32 := (transpose S2x16x2048x128 [0, 2, 1, 3] · transposes_S2x2048x16x128_S2x16x2048x128_0_2_1_3) main_v2
  let main_v4 : FVec F S128x128 .f32 := (transpose S128x128 [1, 0] · transposes_S128x128_S128x128_1_0) main_arg5
  let main_v5 : FVec F S2x16x2048x128 .f32 := (fun l r => Host.dotGeneral dot_S2x16x2048x128_S128x128_S2x16x2048x128_3_0_012_1_n_n none l r) main_v3 main_v4
  let main_v6 : FVec F S1x1x1x128 .f32 := broadcastInDim S1x1x1x128 ![3] bcast_S128_S1x1x1x128_3 main_arg6
  let main_v7 : FVec F S2x16x2048x128 .f32 := broadcastInDim S2x16x2048x128 ![0, 1, 2, 3] bcast_S1x1x1x128_S2x16x2048x128_0_1_2_3 main_v6
  let main_v8 : FVec F S2x16x2048x128 .f32 := addf main_v5 main_v7
  let main_cst : FVec F S_ .f32 := constant S_ .f32 0x00000000#32
  let main_v9 : FVec F S2x16x2048x128 .f32 := broadcastInDim S2x16x2048x128 ![] bcast_S_S2x16x2048x128 main_cst
  let main_v10 : FVec F S2x16x2048x128 .f32 := maximumf main_v8 main_v9
  let main_v11 : FVec F S128x1 .f32 := (transpose S128x1 [1, 0] · transposes_S1x128_S128x1_1_0) main_arg7
  let main_v12 : FVec F S2x16x2048x1 .f32 := (fun l r => Host.dotGeneral dot_S2x16x2048x128_S128x1_S2x16x2048x1_3_0_012_1_n_n none l r) main_v10 main_v11
  let main_v13 : FVec F S1x1x1x1 .f32 := broadcastInDim S1x1x1x1 ![3] bcast_S1_S1x1x1x1_3 main_arg8
  let main_v14 : FVec F S2x16x2048x1 .f32 := broadcastInDim S2x16x2048x1 ![0, 1, 2, 3] bcast_S1x1x1x1_S2x16x2048x1_0_1_2_3 main_v13
  let main_v15 : FVec F S2x16x2048x1 .f32 := addf main_v12 main_v14
  let main_v16 : FVec F S2x16x2048 .f32 := shapeCast S2x16x2048 main_v15 shapeCasts_S2x16x2048x1_S2x16x2048
  let main_cst_0 : FVec F S_ .f32 := constant S_ .f32 0xFF800000#32
  let main_v17 : FVec F S2x16 .f32 := (fun x v => Host.reduce FloatOps.maximumf x v reducesTo_S2x16x2048_S2x16_d2 h_S_) main_v16 main_cst_0
  let main_v18 : FVec F S2x16x1 .f32 := broadcastInDim S2x16x1 ![0, 1] bcast_S2x16_S2x16x1_0_1 main_v17
  let main_cst_1 : FVec F S_ .f32 := constant S_ .f32 0x7F800000#32
  let main_v19 : FVec F S2x16 .f32 := (fun x v => Host.reduce FloatOps.minimumf x v reducesTo_S2x16x2048_S2x16_d2 h_S_) main_v16 main_cst_1
  let main_v20 : FVec F S2x16x1 .f32 := broadcastInDim S2x16x1 ![0, 1] bcast_S2x16_S2x16x1_0_1 main_v19
  fn_part1 (F := F) main_v16 main_v18 main_v20
-- ==== Kernel.lean ====
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S1x128 : Shape := ⟨2, ![1, 128]⟩
abbrev S1 : Shape := ⟨1, ![1]⟩
abbrev S4096x2048 : Shape := ⟨2, ![4096, 2048]⟩
abbrev S512x2048 : Shape := ⟨2, ![512, 2048]⟩
abbrev S2048 : Shape := ⟨1, ![2048]⟩
abbrev S2048x1 : Shape := ⟨2, ![2048, 1]⟩
abbrev S1x2048 : Shape := ⟨2, ![1, 2048]⟩
abbrev S1x1 : Shape := ⟨2, ![1, 1]⟩
abbrev S32x2048 : Shape := ⟨2, ![32, 2048]⟩
abbrev S2048x128 : Shape := ⟨2, ![2048, 128]⟩
abbrev S32 : Shape := ⟨1, ![32]⟩
abbrev S32x1 : Shape := ⟨2, ![32, 1]⟩
abbrev S32x1x2048 : Shape := ⟨3, ![32, 1, 2048]⟩
abbrev S1x1x2048 : Shape := ⟨3, ![1, 1, 2048]⟩
abbrev S128x2048 : Shape := ⟨2, ![128, 2048]⟩

abbrev nBuf : Space → Nat
  | .hbm => 33
  | .vmem => 33
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S4096x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S2048x2048, .bf16⟩
  | .hbm, ⟨23, _⟩ => ⟨S128x128, .bf16⟩
  | .hbm, ⟨24, _⟩ => ⟨S1x128, .f32⟩
  | .hbm, ⟨25, _⟩ => ⟨S1x128, .bf16⟩
  | .hbm, ⟨26, _⟩ => ⟨S1x1, .f32⟩
  | .hbm, ⟨27, _⟩ => ⟨S32x2048, .f32⟩
  | .hbm, ⟨28, _⟩ => ⟨S32x1x2048, .f32⟩
  | .hbm, ⟨29, _⟩ => ⟨S4096x2048, .bf16⟩
  | .hbm, ⟨30, _⟩ => ⟨S2048x2048, .bf16⟩
  | .hbm, ⟨31, _⟩ => ⟨S4096x2048, .f32⟩
  | .hbm, ⟨32, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S4096x2048, .bf16⟩
  | .local _ .vmem, ⟨12, _⟩ => ⟨S128x128, .bf16⟩
  | .local _ .vmem, ⟨13, _⟩ => ⟨S1x128, .f32⟩
  | .local _ .vmem, ⟨14, _⟩ => ⟨S1x128, .bf16⟩
  | .local _ .vmem, ⟨15, _⟩ => ⟨S1x1, .f32⟩
  | .local _ .vmem, ⟨16, _⟩ => ⟨S2048x2048, .bf16⟩
  | .local _ .vmem, ⟨17, _⟩ => ⟨S32x2048, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S1x1x2048, .f32⟩
  | .local _ .vmem, ⟨25, _⟩ => ⟨S1x1x2048, .f32⟩
  | .local _ .vmem, ⟨26, _⟩ => ⟨S2048x128, .bf16⟩
  | .local _ .vmem, ⟨27, _⟩ => ⟨S2048x128, .bf16⟩
  | .local _ .vmem, ⟨28, _⟩ => ⟨S512x2048, .bf16⟩
  | .local _ .vmem, ⟨29, _⟩ => ⟨S512x2048, .bf16⟩
  | .local _ .vmem, ⟨30, _⟩ => ⟨S2048x2048, .bf16⟩
  | .local _ .vmem, ⟨31, _⟩ => ⟨S512x2048, .f32⟩
  | .local _ .vmem, ⟨32, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

@[reducible] def k1_t1_loop : Scf.Loop 32 :=
  let c0_i32 : BitVec 32 := 0#32
  let c44_i32 : BitVec 32 := 44#32
  let v491 : BitVec 32 := Scalar.addi c0_i32 c44_i32
  let c1_i32 : BitVec 32 := 1#32
  ⟨c0_i32, v491, c1_i32⟩
@[reducible] def k1_t2_loop : Scf.Loop 32 :=
  let c0_i32_343 : BitVec 32 := 0#32
  let c50_i32 : BitVec 32 := 50#32
  let v503 : BitVec 32 := Scalar.addi c0_i32_343 c50_i32
  let c1_i32_344 : BitVec 32 := 1#32
  ⟨c0_i32_343, v503, c1_i32_344⟩
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== KernelIdeal.lean ====
variable {F : FTy → Type} [FloatOps F] [Named F]
def κ : String → Option EReal := fun
  | "inv_sqrt_dh" => some (((Real.sqrt 128)⁻¹ : ℝ) : EReal)
  | _ => none
-- ==== ReferenceIdeal.lean ====
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S1x128 : Shape := ⟨2, ![1, 128]⟩
abbrev S1 : Shape := ⟨1, ![1]⟩
abbrev S2x2048x16x128 : Shape := ⟨4, ![2, 2048, 16, 128]⟩
abbrev S2x16x2048x128 : Shape := ⟨4, ![2, 16, 2048, 128]⟩
abbrev S1x1x1x128 : Shape := ⟨4, ![1, 1, 1, 128]⟩
abbrev S_ : Shape := ⟨0, ![]⟩
abbrev S128x1 : Shape := ⟨2, ![128, 1]⟩
abbrev S2x16x2048x1 : Shape := ⟨4, ![2, 16, 2048, 1]⟩
abbrev S1x1x1x1 : Shape := ⟨4, ![1, 1, 1, 1]⟩
abbrev S2x16x2048 : Shape := ⟨3, ![2, 16, 2048]⟩
abbrev S2048 : Shape := ⟨1, ![2048]⟩
abbrev S1x1x2048 : Shape := ⟨3, ![1, 1, 2048]⟩
abbrev S2x16 : Shape := ⟨2, ![2, 16]⟩
abbrev S2x16x1 : Shape := ⟨3, ![2, 16, 1]⟩
abbrev S2x16x1x1 : Shape := ⟨4, ![2, 16, 1, 1]⟩
abbrev S2x16x128 : Shape := ⟨3, ![2, 16, 128]⟩
abbrev S2x16x128x1 : Shape := ⟨4, ![2, 16, 128, 1]⟩
abbrev S2x16x128x128 : Shape := ⟨4, ![2, 16, 128, 128]⟩
abbrev S2x16x128x128x1 : Shape := ⟨5, ![2, 16, 128, 128, 1]⟩

abbrev nBuf : Space → Nat
  | .hbm => 129
  | .vmem => 0
  | .smem => 0
  | _ => 0

abbrev hbmTy0_0 (i : Nat) : BufTy := match i % 128 with
  | 0 => ⟨S2x2048x2048, .f32⟩
  | 1 => ⟨S2048x2048, .f32⟩
  | 2 => ⟨S2048x2048, .f32⟩
  | 3 => ⟨S2048x2048, .f32⟩
  | 4 => ⟨S2048x2048, .f32⟩
  | 5 => ⟨S128x128, .f32⟩
  | 6 => ⟨S128, .f32⟩
  | 7 => ⟨S1x128, .f32⟩
  | 8 => ⟨S1, .f32⟩
  | 9 => ⟨S2048x2048, .f32⟩
  | 10 => ⟨S2x2048x2048, .f32⟩
  | 11 => ⟨S2x2048x16x128, .f32⟩
  | 12 => ⟨S2x16x2048x128, .f32⟩
  | 13 => ⟨S2048x2048, .f32⟩
  | 14 => ⟨S2x2048x2048, .f32⟩
  | 15 => ⟨S2x2048x16x128, .f32⟩
  | 16 => ⟨S2x16x2048x128, .f32⟩
  | 17 => ⟨S2048x2048, .f32⟩
  | 18 => ⟨S2x2048x2048, .f32⟩
  | 19 => ⟨S2x2048x16x128, .f32⟩
  | 20 => ⟨S2x16x2048x128, .f32⟩
  | 21 => ⟨S128x128, .f32⟩
  | 22 => ⟨S2x16x2048x128, .f32⟩
  | 23 => ⟨S1x1x1x128, .f32⟩
  | 24 => ⟨S2x16x2048x128, .f32⟩
  | 25 => ⟨S2x16x2048x128, .f32⟩
  | 26 => ⟨S_, .f32⟩
  | 27 => ⟨S2x16x2048x128, .f32⟩
  | 28 => ⟨S2x16x2048x128, .f32⟩
  | 29 => ⟨S128x1, .f32⟩
  | 30 => ⟨S2x16x2048x1, .f32⟩
  | 31 => ⟨S1x1x1x1, .f32⟩
  | 32 => ⟨S2x16x2048x1, .f32⟩
  | 33 => ⟨S2x16x2048x1, .f32⟩
  | 34 => ⟨S2x16x2048, .f32⟩
  | 35 => ⟨S2x16x2048, .f32⟩
  | 36 => ⟨S2x16x2048, .f32⟩
  | 37 => ⟨S2x16x2048, .f32⟩
  | 38 => ⟨S_, .f32⟩
  | 39 => ⟨S_, .f32⟩
  | 40 => ⟨S2x16x2048, .f32⟩
  | 41 => ⟨S2048, .i32⟩
  | 42 => ⟨S_, .i32⟩
  | 43 => ⟨S2048, .i32⟩
  | 44 => ⟨S2048, .i32⟩
  | 45 => ⟨S2048, .f32⟩
  | 46 => ⟨S_, .f32⟩
  | 47 => ⟨S2x16x2048, .f32⟩
  | 48 => ⟨S2x16x2048, .f32⟩
  | 49 => ⟨S1x1x2048, .f32⟩
  | 50 => ⟨S2x16x2048, .f32⟩
  | 51 => ⟨S2x16x2048, .f32⟩
  | 52 => ⟨S2x16x2048, .i1⟩
  | 53 => ⟨S2x16x2048, .i32⟩
  | 54 => ⟨S_, .i32⟩
  | 55 => ⟨S2x16, .i32⟩
  | 56 => ⟨S2x16x1, .i32⟩
  | 57 => ⟨S_, .i32⟩
  | 58 => ⟨S2x16x1, .i32⟩
  | 59 => ⟨S2x16x1, .i32⟩
  | 60 => ⟨S_, .i32⟩
  | 61 => ⟨S2x16x1, .i32⟩
  | 62 => ⟨S2x16x1, .i32⟩
  | 63 => ⟨S_, .i32⟩
  | 64 => ⟨S2x16x1, .i32⟩
  | 65 => ⟨S2x16x1, .i1⟩
  | 66 => ⟨S_, .i32⟩
  | 67 => ⟨S2x16x1, .i32⟩
  | 68 => ⟨S2x16x1, .i32⟩
  | 69 => ⟨S2x16x1, .i32⟩
  | 70 => ⟨S2x16x1x1, .i32⟩
  | 71 => ⟨S2x16x1, .f32⟩
  | 72 => ⟨S_, .f32⟩
  | 73 => ⟨S2x16x1, .f32⟩
  | 74 => ⟨S2x16x1, .f32⟩
  | 75 => ⟨S2x16x1, .f32⟩
  | 76 => ⟨S2x16x1, .f32⟩
  | 77 => ⟨S2x16x2048, .f32⟩
  | 78 => ⟨S2x16x2048, .f32⟩
  | 79 => ⟨S_, .f32⟩
  | 80 => ⟨S2x16x2048, .f32⟩
  | 81 => ⟨S2x16x2048, .f32⟩
  | 82 => ⟨S2x16x128, .f32⟩
  | 83 => ⟨S2x16x128, .i32⟩
  | 84 => ⟨S2x16x128x1, .i32⟩
  | 85 => ⟨S2x16x128x128, .i32⟩
  | 86 => ⟨S_, .i32⟩
  | 87 => ⟨S2x16x128x128, .i32⟩
  | 88 => ⟨S2x16x128x128, .i1⟩
  | 89 => ⟨S_, .i32⟩
  | 90 => ⟨S2x16x128x128, .i32⟩
  | 91 => ⟨S2x16x128x128, .i32⟩
  | 92 => ⟨S2x16x128x128, .i32⟩
  | 93 => ⟨S2x16x128x128x1, .i32⟩
  | 94 => ⟨S2x16x128x128, .f32⟩
  | 95 => ⟨S_, .i32⟩
  | 96 => ⟨S2x16x128x128, .i32⟩
  | 97 => ⟨S2x16x128x128, .i1⟩
  | 98 => ⟨S_, .i32⟩
  | 99 => ⟨S2x16x128x128, .i32⟩
  | 100 => ⟨S2x16x128x128, .i32⟩
  | 101 => ⟨S2x16x128x128, .i32⟩
  | 102 => ⟨S2x16x128x128x1, .i32⟩
  | 103 => ⟨S2x16x128x128, .f32⟩
  | 104 => ⟨S2x16x128x128, .f32⟩
  | 105 => ⟨S2x16x2048x128, .f32⟩
  | 106 => ⟨S_, .f32⟩
  | 107 => ⟨S_, .f32⟩
  | 108 => ⟨S2x16x2048x128, .f32⟩
  | 109 => ⟨S2x16x2048x128, .f32⟩
  | 110 => ⟨S_, .f32⟩
  | 111 => ⟨S2x16x2048, .f32⟩
  | 112 => ⟨S_, .f32⟩
  | 113 => ⟨S2x16x2048, .f32⟩
  | 114 => ⟨S2x16x2048, .f32⟩
  | 115 => ⟨S2x16x2048x1, .f32⟩
  | 116 => ⟨S2x16x2048x128, .f32⟩
  | 117 => ⟨S2x16x2048x128, .f32⟩
  | 118 => ⟨S2x16x2048x128, .f32⟩
  | 119 => ⟨S_, .f32⟩
  | 120 => ⟨S2x16x2048, .f32⟩
  | 121 => ⟨S2x16x2048x1, .f32⟩
  | 122 => ⟨S2x16x2048x128, .f32⟩
  | 123 => ⟨S2x16x2048x128, .f32⟩
  | 124 => ⟨S2x16x2048x128, .f32⟩
  | 125 => ⟨S2x2048x16x128, .f32⟩
  | 126 => ⟨S2x2048x2048, .f32⟩
  | 127 => ⟨S2048x2048, .f32⟩
  | _ => ⟨S2x2048x2048, .f32⟩

abbrev hbmTy0_1 (i : Nat) : BufTy := match i % 128 with
  | 0 => ⟨S2x2048x2048, .f32⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_call0_cst : Ref sig .tc := ⟨.hbm, 38, rfl⟩
abbrev main_call0_call0_v0 : Ref sig .tc := ⟨.hbm, 39, rfl⟩
abbrev main_call0_v3 : Ref sig .tc := ⟨.hbm, 40, rfl⟩
abbrev main_call0_v4 : Ref sig .tc := ⟨.hbm, 41, rfl⟩
abbrev main_call0_c : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_c_0 : Ref sig .tc := ⟨.hbm, 54, rfl⟩
abbrev main_call0_v15 : Ref sig .tc := ⟨.hbm, 55, rfl⟩
abbrev main_call0_v16 : Ref sig .tc := ⟨.hbm, 56, rfl⟩
abbrev main_call0_c_1 : Ref sig .tc := ⟨.hbm, 57, rfl⟩
abbrev main_call0_v17 : Ref sig .tc := ⟨.hbm, 58, rfl⟩
abbrev main_call0_v18 : Ref sig .tc := ⟨.hbm, 59, rfl⟩
abbrev main_call0_c_2 : Ref sig .tc := ⟨.hbm, 60, rfl⟩
abbrev main_call0_v19 : Ref sig .tc := ⟨.hbm, 61, rfl⟩
abbrev main_call0_v20 : Ref sig .tc := ⟨.hbm, 62, rfl⟩
abbrev main_call0_call1_c : Ref sig .tc := ⟨.hbm, 63, rfl⟩
abbrev main_call0_call1_v0 : Ref sig .tc := ⟨.hbm, 64, rfl⟩
abbrev main_call0_call1_v1 : Ref sig .tc := ⟨.hbm, 65, rfl⟩
abbrev main_call0_call1_c_0 : Ref sig .tc := ⟨.hbm, 66, rfl⟩
abbrev main_call0_call1_v2 : Ref sig .tc := ⟨.hbm, 67, rfl⟩
abbrev main_call0_call1_v3 : Ref sig .tc := ⟨.hbm, 68, rfl⟩
abbrev main_call0_call1_v4 : Ref sig .tc := ⟨.hbm, 69, rfl⟩
abbrev main_call0_call1_v5 : Ref sig .tc := ⟨.hbm, 70, rfl⟩
abbrev main_call0_v21 : Ref sig .tc := ⟨.hbm, 71, rfl⟩
abbrev main_call0_cst_3 : Ref sig .tc := ⟨.hbm, 72, rfl⟩
abbrev main_call0_v22 : Ref sig .tc := ⟨.hbm, 73, rfl⟩
abbrev main_call0_v23 : Ref sig .tc := ⟨.hbm, 74, rfl⟩
abbrev main_call0_v24 : Ref sig .tc := ⟨.hbm, 75, rfl⟩
abbrev main_call0_v25 : Ref sig .tc := ⟨.hbm, 76, rfl⟩
abbrev main_call0_v26 : Ref sig .tc := ⟨.hbm, 77, rfl⟩
abbrev main_call0_v27 : Ref sig .tc := ⟨.hbm, 78, rfl⟩
abbrev main_call0_cst_4 : Ref sig .tc := ⟨.hbm, 79, rfl⟩
abbrev main_call0_v28 : Ref sig .tc := ⟨.hbm, 80, rfl⟩
abbrev main_v25 : Ref sig .tc := ⟨.hbm, 81, rfl⟩
abbrev main_values : Ref sig .tc := ⟨.hbm, 82, rfl⟩
abbrev main_indices : Ref sig .tc := ⟨.hbm, 83, rfl⟩
abbrev main_v26 : Ref sig .tc := ⟨.hbm, 84, rfl⟩
abbrev main_v27 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_v28 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_cst_0 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_cst_1 : Ref sig .tc := ⟨.hbm, 110, rfl⟩
abbrev main_v35 : Ref sig .tc := ⟨.hbm, 111, rfl⟩
abbrev main_cst_2 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_cst_3 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.KRun.lean ====
/- The kernel run with its result read: the launch over the segments, whose last thread state is read against the
   final state at the result's buffer as well as at the arguments. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main terminates with the result's buffer at the last boundary's contents and the arguments
    as launched. -/
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v21 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Gen

end
-- ==== Proof.KProj.lean ====
/- The projections: what the first and the last launch leave in their result arrays, as whole-array sums of the
   arrays each launch is entered with. -/
module

public import proofs.«01_k».proof.Proof.Gen.KernelIdeal.Frame
public import Idealize.ShloMosaic.Lib.Pipeline.ValueKit
public import Idealize.ShloMosaic.Lib.ValueIdx
public import Idealize.ShloMosaic.Lib.Pointwise

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- Rows of `x` against rows of `w`. -/
def rowsDot (x : S4096x2048.Idx → EReal) (w : S2048x2048.Idx → EReal) : S4096x2048.Idx → EReal :=
  fun i => ∑ k : Fin 2048, x (ix2 (i 0) k) * w (ix2 (i 1) k)

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)

theorem sum_ext {n : ℕ} {f g : Fin n → EReal} (h : ∀ k, f k = g k) : ∑ k, f k = ∑ k, g k :=
  Finset.sum_congr rfl fun k _ => h k

/-- The product of a block of rows with the rows of a weight. -/
theorem pay0_2_apply (x : Vec Ideal S512x2048 .f32) (w : Vec Ideal S2048x2048 .bf16) (y : S512x2048.Idx) :
    k0_pay2 x w y = ∑ k : Fin 2048, x (ix2 (y 0) k) * w (ix2 (y 1) k) := by
  unfold k0_pay2 k0_pay1
  pointwise

theorem pay0_3_apply (x : Vec Ideal S512x2048 .f32) (w : Vec Ideal S2048x2048 .bf16) (y : S512x2048.Idx) :
    k0_pay3 x w y = ∑ k : Fin 2048, x (ix2 (y 0) k) * w (ix2 (y 1) k) := pay0_2_apply x w y

theorem pay0_4_apply (x : Vec Ideal S512x2048 .f32) (w : Vec Ideal S2048x2048 .bf16) (y : S512x2048.Idx) :
    k0_pay4 x w y = ∑ k : Fin 2048, x (ix2 (y 0) k) * w (ix2 (y 1) k) := pay0_2_apply x w y

theorem arr0_4 (c : Dev nD) : (dat0 V c).arrAt 4 cfg0.N = rowsDot (V c main_v0) (V c main_v1) := by
  refine (dat0 V c).arrAt_eq_of_covers 4 _ (by decide +kernel) fun t hf y => ?_
  blk_simp
  rw [after0_4]
  unfold out0_4
  frame_out
  rw [pay0_2_apply]
  unfold rowsDot
  refine sum_ext fun k => ?_
  blk_simp [iblk0]
  congr 2
  · blk_ext [idx0_0, idx0_4]
  · blk_ext [idx0_1, idx0_4]

theorem arr0_5 (c : Dev nD) : (dat0 V c).arrAt 5 cfg0.N = rowsDot (V c main_v0) (V c main_v2) := by
  refine (dat0 V c).arrAt_eq_of_covers 5 _ (by decide +kernel) fun t hf y => ?_
  blk_simp
  rw [after0_5]
  unfold out0_5
  frame_out
  rw [pay0_3_apply]
  unfold rowsDot
  refine sum_ext fun k => ?_
  blk_simp [iblk0]
  congr 2
  · blk_ext [idx0_0, idx0_5]
  · blk_ext [idx0_2, idx0_5]

theorem arr0_6 (c : Dev nD) : (dat0 V c).arrAt 6 cfg0.N = rowsDot (V c main_v0) (V c main_v3) := by
  refine (dat0 V c).arrAt_eq_of_covers 6 _ (by decide +kernel) fun t hf y => ?_
  blk_simp
  rw [after0_6]
  unfold out0_6
  frame_out
  rw [pay0_4_apply]
  unfold rowsDot
  refine sum_ext fun k => ?_
  blk_simp [iblk0]
  congr 2
  · blk_ext [idx0_0, idx0_6]
  · blk_ext [idx0_3, idx0_6]

/-! ## The last launch -/

theorem idx3_0 : ∀ t : Fin cfg3.N, win3_0.index t = ![t.val, 0] := (by decide +kernel : ∀ t : Fin grid3.N, _)
theorem idx3_1 : ∀ t : Fin cfg3.N, win3_1.index t = ![0, 0] := (by decide +kernel : ∀ t : Fin grid3.N, _)
theorem idx3_2 : ∀ t : Fin cfg3.N, win3_2.index t = ![t.val, 0] := (by decide +kernel : ∀ t : Fin grid3.N, _)

theorem pay3_apply (x : Vec Ideal S512x2048 .bf16) (w : Vec Ideal S2048x2048 .bf16) (y : S512x2048.Idx) :
    k3_pay1 x w y = ∑ k : Fin 2048, x (ix2 (y 0) k) * w (ix2 (y 1) k) := by
  unfold k3_pay1
  pointwise

theorem arr3_2 (c : Dev nD) : (dat3 V c).arrAt 2 cfg3.N = rowsDot (V c main_v18) (V c main_v19) := by
  refine (dat3 V c).arrAt_eq_of_covers 2 _ (by decide +kernel) fun t hf y => ?_
  blk_simp
  rw [after3_2]
  unfold out3_2
  frame_out
  rw [pay3_apply]
  unfold rowsDot
  refine sum_ext fun k => ?_
  blk_simp [iblk3]
  congr 2
  · blk_ext [idx3_0, idx3_2]
  · blk_ext [idx3_1, idx3_2]

end Cert.KernelIdeal.Gen

end

end
-- ==== Proof.KSelect.lean ====
/- The selection launch: its result array as the printed selection of a score array, and that score array entry by
   entry. -/
module

public import proofs.«01_k».proof.Proof.KProj

@[expose] public section

set_option maxRecDepth 16384

noncomputable section

namespace Cert.KernelIdeal.Gen

open Idealize.ShloMosaic Idealize.ShloMosaic.TcCoe Idealize.ShloMosaic.Tactic

variable (V : (c : Dev nD) → (b : Ref sig .tc) → Buf (Elt Ideal) ((c : Thread nD τ).loc b))

/-- The ends of the first bisection, over all rows at once. -/
def endsA (s : FVec Ideal S32x2048 .f32) : FVec Ideal S32x1 .f32 × FVec Ideal S32x1 .f32 :=
  Scf.fold (fun (_ : Fin k1_t1_loop.trips) a => (k1_pay50 s a.1 a.2, k1_pay51 s a.1 a.2)) (k1_pay46 s, k1_pay47 s)

/-- The ends of the second bisection, over all rows at once. -/
def endsB (s : FVec Ideal S32x2048 .f32) : FVec Ideal S32x1 .f32 × FVec Ideal S32x1 .f32 :=
  Scf.fold (fun (_ : Fin k1_t2_loop.trips) a =>
      (k1_pay57 s (endsA s).1 (endsA s).2 a.1 a.2, k1_pay58 s (endsA s).1 (endsA s).2 a.1 a.2))
    (k1_pay53, k1_pay54 s (endsA s).1 (endsA s).2)

/-- The slots the launch computes from the scores. -/
def slots (s : FVec Ideal S32x2048 .f32) (U : Vec Ideal S2048x2048 .bf16) : FVec Ideal S32x2048 .f32 :=
  k1_pay1 (k1_pay59 s (endsA s).1 (endsA s).2 (endsB s).2) (k1_pay60 s (endsA s).1 (endsA s).2 (endsB s).2)
    (k1_pay61 s (endsA s).1 (endsA s).2 (endsB s).1 (endsB s).2)
    (k1_pay62 s (endsA s).1 (endsA s).2 (endsB s).1 (endsB s).2) U U

/-- The score of position `i` of row `r` (a sequence and a head). -/
def score (k : S4096x2048.Idx → EReal) (w1 : S128x128.Idx → EReal) (b1 w2 : S1x128.Idx → EReal) (b2 : S1x1.Idx → EReal)
    (r : Fin 32) (i : Fin 2048) : EReal :=
  (∑ e : Fin 128, w2 (ix2 0 e) * max ((∑ f : Fin 128,
      k (ix2 (⟨2048 * (r.val / 16) + i.val, by omega⟩ : Fin 4096) (⟨128 * (r.val % 16) + f.val, by omega⟩ : Fin 2048))
        * w1 (ix2 e f)) + b1 (ix2 0 e)) 0) + b2 (ix2 0 0)

theorem pay1_2_apply (x : Vec Ideal S2048x128 .bf16) (w1 : Vec Ideal S128x128 .bf16) (b1 : Vec Ideal S1x128 .f32)
    (w2 : Vec Ideal S1x128 .bf16) (y : S1x2048.Idx) :
    k1_pay2 x w1 b1 w2 y = ∑ e : Fin 128, w2 (ix2 (y 0) e) * max ((∑ f : Fin 128, x (ix2 (y 1) f) * w1 (ix2 e f)) + b1 (ix2 0 e)) 0 := by
  unfold k1_pay2
  pointwise

theorem pay1_2_row (x : Vec Ideal S2048x128 .bf16) (k : S4096x2048.Idx → EReal) (w1 : Vec Ideal S128x128 .bf16)
    (b1 : Vec Ideal S1x128 .f32) (w2 : Vec Ideal S1x128 .bf16) (r : Fin 32) (i : Fin 2048) (y : S1x2048.Idx)
    (h0 : (y 0).val = 0) (h1 : (y 1).val = i.val)
    (hx : ∀ f : Fin 128, x (ix2 i f) =
      k (ix2 (⟨2048 * (r.val / 16) + i.val, by omega⟩ : Fin 4096) (⟨128 * (r.val % 16) + f.val, by omega⟩ : Fin 2048))) :
    k1_pay2 x w1 b1 w2 y = ∑ e : Fin 128, w2 (ix2 0 e) * max ((∑ f : Fin 128,
      k (ix2 (⟨2048 * (r.val / 16) + i.val, by omega⟩ : Fin 4096) (⟨128 * (r.val % 16) + f.val, by omega⟩ : Fin 2048))
        * w1 (ix2 e f)) + b1 (ix2 0 e)) 0 := by
  have e0 : y 0 = (0 : Fin 1) := Fin.ext h0
  have e1 : y 1 = i := Fin.ext h1
  rw [pay1_2_apply]
  refine sum_ext fun e => ?_
  rw [e0, e1]
  congr 4
  funext f
  rw [hx]

set_option maxHeartbeats 4000000 in
theorem outs_eq (c : Dev nD) (t : Fin cfg1.N) : ∃ s : FVec Ideal S32x2048 .f32,
    (∀ r i, s (ix2 r i) = score (iblk1 V c 0 t) (iblk1 V c 1 t) (iblk1 V c 2 t) (iblk1 V c 3 t) (iblk1 V c 4 t) r i) ∧
      outsAt1 V c t = slots s (iblk1 V c 5 t) := by
  refine ⟨?s, ?hs, funext fun y => ?h⟩
  case h =>
    unfold outsAt1 out1_A_6 kernelRun1_A
    dsimp only
    frame_out
    unfold slots endsB endsA
    rfl
  intro r i
  unfold k1_pay45 score
  refine congrArg₂ (fun a b : EReal => a + b) ?_ ?_
  · concat_tiles j h
    all_goals
      have hr : r.val = _ := h
      have hi : (j 1).val = i.val := h1
      refine pay1_2_row _ _ _ _ _ r i j h0 hi fun f =>
        View.ld_unit_apply_of _ _ _ _ _ _ fun a => ?_
      fin_cases a <;> simp [hr]
  · pointwise

theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)

theorem blk1_0 (c : Dev nD) (t : Fin cfg1.N) : iblk1 V c 0 t = V c main_v4_1 := by
  funext y
  blk_simp [iblk1]
  congr 1
  blk_ext [idx1_0]

theorem blk1_1 (c : Dev nD) (t : Fin cfg1.N) : iblk1 V c 1 t = V c main_v12 := by
  funext y
  blk_simp [iblk1]
  congr 1
  blk_ext [idx1_1]

theorem blk1_2 (c : Dev nD) (t : Fin cfg1.N) : iblk1 V c 2 t = V c main_v13 := by
  funext y
  blk_simp [iblk1]
  congr 1
  blk_ext [idx1_2]

theorem blk1_3 (c : Dev nD) (t : Fin cfg1.N) : iblk1 V c 3 t = V c main_v14 := by
  funext y
  blk_simp [iblk1]
  congr 1
  blk_ext [idx1_3]

theorem blk1_4 (c : Dev nD) (t : Fin cfg1.N) : iblk1 V c 4 t = V c main_v15 := by
  funext y
  blk_simp [iblk1]
  congr 1
  blk_ext [idx1_4]

theorem blk1_5 (c : Dev nD) (t : Fin cfg1.N) : iblk1 V c 5 t = V c main_v11 := by
  funext y
  blk_simp [iblk1]
  congr 1
  blk_ext [idx1_5]

theorem arr1_6 (c : Dev nD) : ∃ s : FVec Ideal S32x2048 .f32,
    (∀ r i, s (ix2 r i) = score (V c main_v4_1) (V c main_v12) (V c main_v13) (V c main_v14) (V c main_v15) r i) ∧
      (dat1 V c).arrAt 6 cfg1.N = slots s (V c main_v11) := by
  obtain ⟨s, hs, h⟩ := outs_eq V c ⟨0, by decide⟩
  rw [blk1_0, blk1_1, blk1_2, blk1_3, blk1_4] at hs
  rw [blk1_5] at h
  have hall : ∀ t : Fin cfg1.N, outsAt1 V c t = slots s (V c main_v11) := fun t => by
    obtain rfl : t = ⟨0, by decide⟩ := Fin.ext (by have := t.isLt; change t.val < 1 at this; show t.val = 0; omega)
    exact h
  refine ⟨s, hs, ?_⟩
  refine (dat1 V c).arrAt_eq_of_covers 6 _ (by decide +kernel) fun t hf y => ?_
  blk_simp
  rw [after1_6, hall]
  congr 1
  blk_ext [idx1_6]

end Cert.KernelIdeal.Gen

end

end
-- ==== Proof.Bisect.lean ====
/- Facts over the reals about the two interval halvings of the selection: the mass above a threshold, the
   threshold found by halving, and the boundary of the 128 greatest values found by halving. -/
module

public import Idealize.ShloMosaic.PureOps.Ideal
public import Idealize.ShloMosaic.PureOps.Ideal.Laws
public import Mathlib.Data.Real.Basic
public import Mathlib.Algebra.BigOperators.Fin
public import Mathlib.Algebra.Order.BigOperators.Group.Finset
public import Mathlib.Data.Fintype.Card
public import Mathlib.Order.Interval.Finset.Fin
public import Mathlib.Data.Finset.Sort
public import Mathlib.Tactic.Linarith
public import Mathlib.Tactic.FieldSimp
public import Mathlib.Tactic.Ring

@[expose] public section

noncomputable section

open Classical

namespace Cert.Select

/-! ## Halving an interval -/

/-- One halving: the midpoint becomes the lower end where it still satisfies `p`, the upper end otherwise. -/
def halve (p : ℝ → Prop) (e : ℝ × ℝ) : ℝ × ℝ :=
  if p (2⁻¹ * (e.1 + e.2)) then (2⁻¹ * (e.1 + e.2), e.2) else (e.1, 2⁻¹ * (e.1 + e.2))

theorem halve_spec (p : ℝ → Prop) (e : ℝ × ℝ) (h1 : p e.1) (h2 : ¬ p e.2) (k : ℕ) :
    p ((halve p)^[k] e).1 ∧ ¬ p ((halve p)^[k] e).2 ∧
      ((halve p)^[k] e).2 - ((halve p)^[k] e).1 = (e.2 - e.1) / 2 ^ k := by
  induction k with
  | zero => simp [h1, h2]
  | succ k ih =>
    rw [Function.iterate_succ_apply']
    obtain ⟨a, b, c⟩ := ih
    generalize (halve p)^[k] e = d at a b c
    unfold halve
    split
    · rename_i hp
      refine ⟨hp, b, ?_⟩
      show d.2 - 2⁻¹ * (d.1 + d.2) = _
      rw [pow_succ, ← div_div, ← c]; ring
    · rename_i hp
      refine ⟨a, hp, ?_⟩
      show 2⁻¹ * (d.1 + d.2) - d.1 = _
      rw [pow_succ, ← div_div, ← c]; ring

/-! ## The mass above a threshold -/

variable {n : ℕ}

/-- How much of the values lies above `t`. -/
def mass (s : Fin n → ℝ) (t : ℝ) : ℝ := ∑ i, max (s i - t) 0

theorem mass_anti (s : Fin n → ℝ) {t u : ℝ} (h : t ≤ u) : mass s u ≤ mass s t :=
  Finset.sum_le_sum fun i _ => max_le_max (by linarith) le_rfl

theorem mass_lip (s : Fin n → ℝ) {t u : ℝ} (h : t ≤ u) : mass s t ≤ mass s u + n * (u - t) := by
  have : ∑ _i : Fin n, (u - t) = n * (u - t) := by
    rw [Finset.sum_const, Finset.card_univ, Fintype.card_fin, nsmul_eq_mul]
  unfold mass
  rw [← this, ← Finset.sum_add_distrib]
  refine Finset.sum_le_sum fun i _ => ?_
  rcases le_total (s i - t) 0 with h1 | h1 <;> rcases le_total (s i - u) 0 with h2 | h2 <;>
    simp only [max_eq_left, max_eq_right, h1, h2] <;> linarith

theorem mass_top (s : Fin n → ℝ) (t : ℝ) (h : ∀ i, s i ≤ t) : mass s t = 0 :=
  Finset.sum_eq_zero fun i _ => max_eq_right (by linarith [h i])

theorem mass_low (s : Fin n → ℝ) (t : ℝ) (h : ∀ i, t + 1 ≤ s i) : (n : ℝ) ≤ mass s t := by
  have : ∑ _i : Fin n, (1 : ℝ) = n := by simp
  rw [← this]
  exact Finset.sum_le_sum fun i _ => le_max_of_le_left (by linarith [h i])

/-! ## The order of the clipped values -/

/-- `j` comes before `i`: its value is greater, or neither is greater and its index is smaller. -/
def Ahead (w : Fin n → ℝ) (j i : Fin n) : Prop := w i < w j ∨ (¬ w j < w i ∧ j < i)

/-- How many values come before `i`. -/
def place (w : Fin n → ℝ) (i : Fin n) : ℕ := (Finset.univ.filter fun j => Ahead w j i).card

theorem clip_lt (a b t : ℝ) : max (b - t) 0 < max (a - t) 0 ↔ t < a ∧ b < a := by
  constructor
  · intro h
    rcases le_total (a - t) 0 with h1 | h1
    · rw [max_eq_right h1] at h; exact absurd h (not_lt.2 (le_max_right _ _))
    · rw [max_eq_left h1] at h
      exact ⟨by linarith [lt_of_le_of_lt (le_max_right _ _) h], by linarith [lt_of_le_of_lt (le_max_left _ _) h]⟩
  · rintro ⟨h1, h2⟩
    rw [max_eq_left (by linarith : (0:ℝ) ≤ a - t)]
    exact max_lt (by linarith) (by linarith)

/-- Two thresholds with the same values above them clip to the same order. -/
theorem place_clip (s : Fin n → ℝ) (t u : ℝ) (h : ∀ i, t < s i ↔ u < s i) (i : Fin n) :
    place (fun j => max (s j - t) 0) i = place (fun j => max (s j - u) 0) i := by
  unfold place Ahead
  congr 1
  ext j
  simp only [clip_lt, h]

/-! ## The halvings together -/

/-- The values `s` with least `lo` and greatest `hi`: distinct ones lie `ε` apart, and the mass above each of
    them stays `n ε` away from `K`, for `ε = (hi - lo + 1) / 2 ^ 40`. -/
structure Apart (s : Fin n → ℝ) (lo hi : ℝ) (K : ℝ) : Prop where
  le_lo : ∀ i, lo ≤ s i
  le_hi : ∀ i, s i ≤ hi
  apart : ∀ i j, s i = s j ∨ (hi - lo + 1) / 2 ^ 40 ≤ |s i - s j|
  away : ∀ i, (hi - lo + 1) / 2 ^ 40 * n ≤ |mass s (s i) - K|

/-- The interval the first halving ends with. -/
def tauEnds (s : Fin n → ℝ) (lo hi K : ℝ) : ℝ × ℝ := (halve fun t => K ≤ mass s t)^[44] (lo - 1, hi)

/-- The threshold the first halving ends with. -/
def tauOf (s : Fin n → ℝ) (lo hi K : ℝ) : ℝ := 2⁻¹ * ((tauEnds s lo hi K).1 + (tauEnds s lo hi K).2)

section tau
variable {s : Fin n → ℝ} {lo hi K : ℝ} (A : Apart s lo hi K) (hK : 0 < K) (hn : K ≤ n)
include A hK hn

theorem range_nonneg : 0 ≤ hi - lo := by
  have hn0 : (0 : ℝ) < n := by linarith
  have : 0 < n := by exact_mod_cast hn0
  have h1 := A.le_lo ⟨0, this⟩
  have h2 := A.le_hi ⟨0, this⟩
  linarith

theorem tauEnds_spec :
    K ≤ mass s (tauEnds s lo hi K).1 ∧ mass s (tauEnds s lo hi K).2 < K ∧
      (tauEnds s lo hi K).2 - (tauEnds s lo hi K).1 = (hi - lo + 1) / 2 ^ 44 := by
  have h1 : K ≤ mass s (lo - 1) := hn.trans (mass_low s _ fun i => by linarith [A.le_lo i])
  have h2 : ¬ K ≤ mass s hi := by rw [mass_top s hi A.le_hi]; exact not_le.2 hK
  obtain ⟨a, b, c⟩ := halve_spec (fun t => K ≤ mass s t) (lo - 1, hi) h1 h2 44
  refine ⟨a, not_le.1 b, ?_⟩
  rw [show hi - lo + 1 = hi - (lo - 1) by ring]; exact c

/-- The mass above the threshold found is within `n (hi - lo + 1) / 2 ^ 45` of `K`. -/
theorem mass_tauOf :
    mass s (tauOf s lo hi K) < K + n * ((hi - lo + 1) / 2 ^ 45) ∧
      K - n * ((hi - lo + 1) / 2 ^ 45) ≤ mass s (tauOf s lo hi K) := by
  obtain ⟨a, b, c⟩ := tauEnds_spec A hK hn
  have hr := range_nonneg A hK hn
  unfold tauOf
  generalize tauEnds s lo hi K = e at a b c
  have hw : (hi - lo + 1) / 2 ^ 44 = 2 * ((hi - lo + 1) / 2 ^ 45) := by ring
  have h0 : 0 < (hi - lo + 1) / 2 ^ 45 := by positivity
  generalize (hi - lo + 1) / 2 ^ 45 = d at hw h0 ⊢
  rw [hw] at c
  constructor
  · have := mass_lip s (show 2⁻¹ * (e.1 + e.2) ≤ e.2 by linarith)
    have e1 : e.2 - 2⁻¹ * (e.1 + e.2) = d := by linarith
    rw [e1] at this; linarith
  · have := mass_lip s (show e.1 ≤ 2⁻¹ * (e.1 + e.2) by linarith)
    have e1 : 2⁻¹ * (e.1 + e.2) - e.1 = d := by linarith
    rw [e1] at this; linarith

/-- A value is above the threshold found exactly when it is above the one with mass `K`, and then by a margin. -/
theorem above_iff (t : ℝ) (ht : mass s t = K) (i : Fin n) :
    (t < s i ↔ tauOf s lo hi K < s i) ∧
      (tauOf s lo hi K < s i → (hi - lo + 1) / 2 ^ 41 ≤ s i - tauOf s lo hi K) := by
  obtain ⟨h1, h2⟩ := mass_tauOf A hK hn
  have hr := range_nonneg A hK hn
  have ha := A.away i
  generalize tauOf s lo hi K = u at h1 h2
  have hw : (hi - lo + 1) / 2 ^ 40 = 32 * ((hi - lo + 1) / 2 ^ 45) := by ring
  have hw' : (hi - lo + 1) / 2 ^ 41 = 16 * ((hi - lo + 1) / 2 ^ 45) := by ring
  have h0 : 0 < (hi - lo + 1) / 2 ^ 45 := by positivity
  rw [hw] at ha; rw [hw']
  generalize (hi - lo + 1) / 2 ^ 45 = d at ha h0 h1 h2 ⊢
  have hn0 : (0 : ℝ) < n := by linarith
  have hnd : 0 < n * d := mul_pos hn0 h0
  rcases le_total 0 (mass s (s i) - K) with h | h
  · rw [abs_of_nonneg h] at ha
    have hi1 : ¬ t < s i := fun hh => by
      have := mass_anti s hh.le; nlinarith
    have hi2 : ¬ u < s i := fun hh => by
      have := mass_anti s hh.le; nlinarith
    exact ⟨iff_of_false hi1 hi2, fun hh => absurd hh hi2⟩
  · rw [abs_of_nonpos h] at ha
    have hi1 : t < s i := by
      by_contra hh
      have := mass_anti s (not_lt.1 hh); nlinarith
    have hi2 : u < s i := by
      by_contra hh
      have := mass_anti s (not_lt.1 hh); nlinarith
    refine ⟨iff_of_true hi1 hi2, fun _ => ?_⟩
    have h3 := mass_lip s hi2.le
    have h4 : (n : ℝ) * (16 * d) ≤ n * (s i - u) := by nlinarith
    exact le_of_mul_le_mul_left h4 hn0

theorem tauOf_ge : lo - 1 ≤ tauOf s lo hi K := by
  obtain ⟨a, b, c⟩ := tauEnds_spec A hK hn
  have hr := range_nonneg A hK hn
  obtain ⟨h1, h2⟩ := mass_tauOf A hK hn
  by_contra hh
  have hlt := not_le.1 hh
  have h3 : ∀ i, tauOf s lo hi K + 1 ≤ s i := fun i => by linarith [A.le_lo i]
  have hsum : mass s (lo - 1) ≤ mass s (tauOf s lo hi K) := mass_anti s hlt.le
  -- the lower end never moves down
  have hmono : ∀ k, lo - 1 ≤ ((halve fun t => K ≤ mass s t)^[k] (lo - 1, hi)).1 ∧
      ((halve fun t => K ≤ mass s t)^[k] (lo - 1, hi)).1 ≤ ((halve fun t => K ≤ mass s t)^[k] (lo - 1, hi)).2 := by
    intro k
    induction k with
    | zero => exact ⟨le_rfl, by simp; linarith⟩
    | succ k ih =>
      rw [Function.iterate_succ_apply']
      generalize (halve fun t => K ≤ mass s t)^[k] (lo - 1, hi) = d at ih
      unfold halve
      split
      · exact ⟨by show _ ≤ 2⁻¹ * (d.1 + d.2); linarith [ih.1, ih.2], by
          show 2⁻¹ * (d.1 + d.2) ≤ d.2; linarith [ih.1, ih.2]⟩
      · exact ⟨ih.1, by show d.1 ≤ 2⁻¹ * (d.1 + d.2); linarith [ih.1, ih.2]⟩
  have := hmono 44
  unfold tauOf at hlt
  change lo - 1 ≤ (tauEnds s lo hi K).1 ∧ (tauEnds s lo hi K).1 ≤ (tauEnds s lo hi K).2 at this
  linarith [this.1, this.2]

end tau

/-! ## The boundary of the greatest values -/

/-- How many values lie above `t`. -/
def above (w : Fin n → ℝ) (t : ℝ) : ℕ := (Finset.univ.filter fun i => t < w i).card

/-- The interval the second halving ends with. -/
def cutEnds (w : Fin n → ℝ) (top : ℝ) (K : ℕ) : ℝ × ℝ := (halve fun t => (K : ℝ) ≤ above w t)^[50] (-1, top)

/-- Values between the ends of the second halving. -/
def Tied (w : Fin n → ℝ) (b : ℝ × ℝ) (i : Fin n) : Prop := b.1 < w i ∧ ¬ b.2 < w i

/-- How many tied values have an index at most `i`. -/
def tiedUpTo (w : Fin n → ℝ) (b : ℝ × ℝ) (i : Fin n) : ℕ := (Finset.univ.filter fun j => j ≤ i ∧ Tied w b j).card

/-- What the kernel's mask keeps: everything above the upper end, and tied values in index order up to `K`. -/
def Kept (w : Fin n → ℝ) (b : ℝ × ℝ) (K : ℕ) (i : Fin n) : Prop :=
  b.2 < w i ∨ (Tied w b i ∧ (tiedUpTo w b i : ℝ) ≤ K - above w b.2)

theorem kept_iff (w : Fin n → ℝ) (b : ℝ × ℝ) (K : ℕ) (h1 : K ≤ above w b.1) (h2 : above w b.2 < K)
    (hb : b.1 ≤ b.2) (heq : ∀ i j, Tied w b i → Tied w b j → w i = w j) (i : Fin n) :
    Kept w b K i ↔ place w i < K := by
  by_cases hs : b.2 < w i
  · refine iff_of_true (.inl hs) (lt_of_le_of_lt (Finset.card_le_card fun j hj => ?_) h2)
    simp only [Finset.mem_filter, Finset.mem_univ, true_and] at hj ⊢
    rcases hj with hj | hj
    · exact hs.trans hj
    · exact lt_of_lt_of_le hs (not_lt.1 hj.1)
  by_cases hc : b.1 < w i
  · have ht : Tied w b i := ⟨hc, hs⟩
    have hset : (Finset.univ.filter fun j => Ahead w j i) =
        (Finset.univ.filter fun j => b.2 < w j) ∪ ((Finset.univ.filter fun j => j ≤ i ∧ Tied w b j).erase i) := by
      ext j
      simp only [Finset.mem_filter, Finset.mem_univ, true_and, Finset.mem_union, Finset.mem_erase]
      constructor
      · intro hj
        by_cases hjs : b.2 < w j
        · exact .inl hjs
        · have hjc : b.1 < w j := by
            rcases hj with hj | hj
            · exact hc.trans hj
            · exact lt_of_lt_of_le hc (not_lt.1 hj.1)
          have := heq i j ht ⟨hjc, hjs⟩
          rcases hj with hj | hj
          · exact absurd hj (by rw [this]; exact lt_irrefl _)
          · exact .inr ⟨hj.2.ne, hj.2.le, hjc, hjs⟩
      · rintro (hj | ⟨hne, hle, hj⟩)
        · exact .inl (lt_of_le_of_lt (not_lt.1 hs) hj)
        · exact .inr ⟨by rw [heq i j ht hj]; exact lt_irrefl _, lt_of_le_of_ne hle hne⟩
    have hdisj : Disjoint (Finset.univ.filter fun j => b.2 < w j)
        ((Finset.univ.filter fun j => j ≤ i ∧ Tied w b j).erase i) := by
      rw [Finset.disjoint_left]
      intro j hj hj'
      simp only [Finset.mem_filter, Finset.mem_univ, true_and, Finset.mem_erase] at hj hj'
      exact hj'.2.2.2 hj
    have hi : i ∈ (Finset.univ.filter fun j => j ≤ i ∧ Tied w b j) := by simp [ht]
    have hcard : place w i + 1 = above w b.2 + tiedUpTo w b i := by
      unfold place above tiedUpTo
      rw [hset, Finset.card_union_of_disjoint hdisj, add_assoc, Finset.card_erase_add_one hi]
    have h3 : ((above w b.2 : ℕ) : ℝ) + (tiedUpTo w b i : ℕ) = place w i + 1 := by exact_mod_cast hcard.symm
    have : place w i < K ↔ (place w i : ℝ) + 1 ≤ K := by
      rw [← Nat.add_one_le_iff]; exact_mod_cast Iff.rfl
    rw [this]
    unfold Kept
    constructor
    · rintro (h | ⟨_, h⟩)
      · exact absurd h hs
      · linarith
    · intro h; exact .inr ⟨ht, by linarith⟩
  · refine iff_of_false (fun h => ?_) (not_lt.2 (h1.trans (Finset.card_le_card fun j hj => ?_)))
    · rcases h with h | h
      · exact hs h
      · exact hc h.1.1
    · simp only [Finset.mem_filter, Finset.mem_univ, true_and] at hj ⊢
      exact .inl (lt_of_le_of_lt (not_lt.1 hc) hj)

/-- The kernel's mask, over clipped values: exactly those with fewer than `K` values ahead. -/
theorem kept_cutEnds {s : Fin n → ℝ} {lo hi : ℝ} {K : ℕ} (A : Apart s lo hi K) (hK : 0 < K) (hn : K ≤ n)
    (t : ℝ) (ht : mass s t = K) (top : ℝ) (htop : ∀ i, max (s i - tauOf s lo hi K) 0 ≤ top)
    (htop' : top ≤ hi - lo + 1) (i : Fin n) :
    Kept (fun i => max (s i - tauOf s lo hi K) 0) (cutEnds (fun i => max (s i - tauOf s lo hi K) 0) top K) K i
      ↔ place (fun i => max (s i - t) 0) i < K := by
  have hK' : (0 : ℝ) < K := by exact_mod_cast hK
  have hn' : (K : ℝ) ≤ n := by exact_mod_cast hn
  have hr := range_nonneg A hK' hn'
  have hab := fun i => above_iff A hK' hn' t ht i
  rw [place_clip s t (tauOf s lo hi K) (fun i => (hab i).1) i]
  set u := tauOf s lo hi K with hu
  have e1 : above (fun i => max (s i - u) 0) (-1) = n := by
    unfold above
    rw [Finset.filter_true_of_mem fun i _ => lt_of_lt_of_le (by norm_num : (-1:ℝ) < 0) (le_max_right _ _)]
    simp
  have e2 : above (fun i => max (s i - u) 0) top = 0 := by
    unfold above
    rw [Finset.filter_false_of_mem fun i _ => not_lt.2 (htop i)]; rfl
  obtain ⟨a, b, c⟩ := halve_spec (fun t => (K : ℝ) ≤ above (fun i => max (s i - u) 0) t) (-1, top)
    (by show (K:ℝ) ≤ _; rw [e1]; exact hn') (by show ¬ (K:ℝ) ≤ _; rw [e2]; simpa using hK.ne') 50
  have h0 : 0 ≤ top := by
    have : 0 < n := lt_of_lt_of_le hK hn
    exact (le_max_right _ _).trans (htop ⟨0, this⟩)
  change (K:ℝ) ≤ above _ (cutEnds (fun i => max (s i - u) 0) top K).1 at a
  change ¬ (K:ℝ) ≤ above _ (cutEnds (fun i => max (s i - u) 0) top K).2 at b
  change (cutEnds (fun i => max (s i - u) 0) top K).2 - (cutEnds (fun i => max (s i - u) 0) top K).1 = (top - -1) / 2 ^ 50 at c
  generalize cutEnds (fun i => max (s i - u) 0) top K = e at a b c
  have hc0 : 0 ≤ (top - -1) / 2 ^ 50 := div_nonneg (by linarith) (by positivity)
  refine kept_iff _ e K (by exact_mod_cast a) (by exact_mod_cast not_le.1 b) (by linarith) (fun i j hi' hj' => ?_) i
  have hsmall : (top - -1) / 2 ^ 50 < (hi - lo + 1) / 2 ^ 41 := by
    rw [div_lt_div_iff₀ (by positivity) (by positivity)]
    nlinarith
  have hgap : ∀ i j, Tied (fun i => max (s i - u) 0) e i → Tied (fun i => max (s i - u) 0) e j → u < s i →
      max (s i - u) 0 ≤ max (s j - u) 0 := by
    intro i j hi1 hj1 hui
    have hm := (hab i).2 hui
    have d1 : max (s i - u) 0 ≤ e.2 := not_lt.1 hi1.2
    have d2 : e.1 < max (s j - u) 0 := hj1.1
    by_contra hlt
    have hlt := not_le.1 hlt
    have hlt2 := (clip_lt (s i) (s j) u).1 hlt
    rw [max_eq_left (by linarith : (0:ℝ) ≤ s i - u)] at d1 hlt
    rcases le_or_gt (s j - u) 0 with hju | hju
    · rw [max_eq_right hju] at d2
      linarith
    · rw [max_eq_left hju.le] at d2
      rcases A.apart i j with h | h
      · linarith [hlt2.2]
      · rw [abs_of_pos (by linarith [hlt2.2])] at h
        have : (hi - lo + 1) / 2 ^ 41 ≤ (hi - lo + 1) / 2 ^ 40 := by
          apply div_le_div_of_nonneg_left (by linarith) (by positivity); norm_num
        linarith
  by_cases h1 : u < s i
  · by_cases h2 : u < s j
    · exact le_antisymm (hgap i j hi' hj' h1) (hgap j i hj' hi' h2)
    · refine le_antisymm (hgap i j hi' hj' h1) ?_
      show max (s j - u) 0 ≤ max (s i - u) 0
      rw [max_eq_right (by linarith [not_lt.1 h2] : s j - u ≤ 0)]; exact le_max_right _ _
  · by_cases h2 : u < s j
    · refine le_antisymm ?_ (hgap j i hj' hi' h2)
      show max (s i - u) 0 ≤ max (s j - u) 0
      rw [max_eq_right (by linarith [not_lt.1 h1] : s i - u ≤ 0)]; exact le_max_right _ _
    · show max (s i - u) 0 = max (s j - u) 0
      rw [max_eq_right (by linarith [not_lt.1 h1]), max_eq_right (by linarith [not_lt.1 h2])]

end Cert.Select

end

end
-- ==== Proof.Reals.lean ====
/- Real numbers among the extended reals: sums, maxima and minima of real entries, and the constants. -/
module

public import Idealize.ShloMosaic.Init
public import Idealize.ShloMosaic.Lib.Pointwise
public import Idealize.ShloMosaic.Lib.IdealHost

@[expose] public section

noncomputable section

namespace Cert.Reals

open Idealize.ShloMosaic

theorem ofBits_128 : Ideal.ofBits .f32 0x43000000#32 = ((128 : ℝ) : EReal) := by
  simp [Ideal.ofBits, Ideal.ieee, -EReal.coe_mul, -EReal.coe_neg]; norm_num
theorem ofBits_half : Ideal.ofBits .f32 0x3F000000#32 = ((2⁻¹ : ℝ) : EReal) := by
  simp [Ideal.ofBits, Ideal.ieee, -EReal.coe_mul, -EReal.coe_neg]; norm_num
theorem ofBits_neg_one : Ideal.ofBits .f32 0xBF800000#32 = ((-1 : ℝ) : EReal) := by
  simp [Ideal.ofBits, Ideal.ieee, -EReal.coe_mul, -EReal.coe_neg]; norm_num
theorem ofBits_2048 : Ideal.ofBits .f32 0x45000000#32 = ((2048 : ℝ) : EReal) := by
  simp [Ideal.ofBits, Ideal.ieee, -EReal.coe_mul, -EReal.coe_neg]; norm_num
theorem ofBits_tiny : Ideal.ofBits .f32 0x2B800000#32 = ((1 / 2 ^ 40 : ℝ) : EReal) := by
  simp [Ideal.ofBits, Ideal.ieee, -EReal.coe_mul, -EReal.coe_neg]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

variable {ι : Type} (t : Finset ι)

theorem coe_sum (f : ι → ℝ) : ∑ i ∈ t, (f i : EReal) = ((∑ i ∈ t, f i : ℝ) : EReal) := by
  classical
  induction t using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_max_zero (a : ℝ) : max (a : EReal) 0 = ((max a 0 : ℝ) : EReal) := coe_max a 0

/-- The largest of finitely many reals. -/
theorem fold_max_coe {n : ℕ} (f : Fin (n + 1) → ℝ) :
    Finset.fold max (⊥ : EReal) (fun i => (f i : EReal)) Finset.univ
      = ((Finset.univ.sup' Finset.univ_nonempty f : ℝ) : EReal) := by
  apply le_antisymm
  · exact (Finset.fold_max_le _).mpr ⟨bot_le, fun i hi => EReal.coe_le_coe_iff.mpr (Finset.le_sup' f hi)⟩
  · obtain ⟨i, hi, e⟩ := Finset.exists_mem_eq_sup' (Finset.univ_nonempty (α := Fin (n + 1))) f
    rw [e]
    exact (Finset.le_fold_max _).mpr (.inr ⟨i, hi, le_rfl⟩)

/-- The smallest of finitely many reals. -/
theorem fold_min_coe {n : ℕ} (f : Fin (n + 1) → ℝ) :
    Finset.fold min (⊤ : EReal) (fun i => (f i : EReal)) Finset.univ
      = ((Finset.univ.inf' Finset.univ_nonempty f : ℝ) : EReal) := by
  apply le_antisymm
  · obtain ⟨i, hi, e⟩ := Finset.exists_mem_eq_inf' (Finset.univ_nonempty (α := Fin (n + 1))) f
    rw [e]
    exact (Finset.fold_min_le _).mpr (.inr ⟨i, hi, le_rfl⟩)
  · exact (Finset.le_fold_min _).mpr ⟨le_top, fun i hi => EReal.coe_le_coe_iff.mpr (Finset.inf'_le f hi)⟩

/-- A count as a sum of ones and zeros. -/
theorem sum_ite_one (p : ι → Prop) [DecidablePred p] :
    (∑ i ∈ t, if p i then (1 : EReal) else 0) = (((t.filter p).card : ℝ) : EReal) := by
  have : ∀ i, (if p i then (1 : EReal) else 0) = ((if p i then 1 else 0 : ℝ) : EReal) := fun i => by split <;> simp
  simp only [this]
  rw [coe_sum]
  simp

end Cert.Reals

end

end
-- ==== Proof.KSlot.lean ====
/- The printed selection over the reals: what each slot is, for a row of real scores. -/
module

public import proofs.«01_k».proof.Proof.KSelect
public import proofs.«01_k».proof.Proof.Bisect
public import proofs.«01_k».proof.Proof.Reals

@[expose] public section

set_option maxRecDepth 16384

noncomputable section

namespace Cert.KernelIdeal.Gen

open Idealize.ShloMosaic Idealize.ShloMosaic.TcCoe Idealize.ShloMosaic.Tactic Cert.Select Cert.Reals
open Classical

/-- A pair of one-column arrays holds, in row `r`, the reals of `e`. -/
def Holds (r : Fin 32) (a : FVec Ideal S32x1 .f32 × FVec Ideal S32x1 .f32) (e : ℝ × ℝ) : Prop :=
  a.1 (ix2 r 0) = (e.1 : EReal) ∧ a.2 (ix2 r 0) = (e.2 : EReal)

/-- A loop whose trip halves what a row holds. -/
theorem fold_halve {N : ℕ} (r : Fin 32) (p : ℝ → Prop)
    (g : FVec Ideal S32x1 .f32 × FVec Ideal S32x1 .f32 → FVec Ideal S32x1 .f32 × FVec Ideal S32x1 .f32)
    (hg : ∀ a e, Holds r a e → Holds r (g a) (halve p e)) (a e) (h : Holds r a e) :
    Holds r (Scf.fold (fun (_ : Fin N) a => g a) a) ((halve p)^[N] e) := by
  rw [Scf.fold_eq]
  have key : ∀ (l : List (Fin N)) a e, Holds r a e →
      Holds r (l.foldl (fun acc _ => g acc) a) ((halve p)^[l.length] e) := by
    intro l
    induction l with
    | nil => exact fun a e h => h
    | cons x l ih =>
      intro a e h
      rw [List.foldl_cons, List.length_cons, Function.iterate_succ_apply]
      exact ih _ _ (hg a e h)
  have := key (List.finRange N) a e h
  rwa [List.length_finRange] at this

variable (s : FVec Ideal S32x2048 .f32) (r : Fin 32) (w : Fin 2048 → ℝ) (hs : ∀ i, s (ix2 r i) = (w i : EReal))

theorem halve_fst (p : ℝ → Prop) (e : ℝ × ℝ) :
    ((halve p e).1 : EReal) = if p (2⁻¹ * (e.1 + e.2)) then ((2⁻¹ * (e.1 + e.2) : ℝ) : EReal) else (e.1 : EReal) := by
  unfold halve; split <;> rfl

theorem halve_snd (p : ℝ → Prop) (e : ℝ × ℝ) :
    ((halve p e).2 : EReal) = if p (2⁻¹ * (e.1 + e.2)) then (e.2 : EReal) else ((2⁻¹ * (e.1 + e.2) : ℝ) : EReal) := by
  unfold halve; split <;> rfl

/-- The least and the greatest score of a row. -/
def lowOf (w : Fin 2048 → ℝ) : ℝ := Finset.univ.inf' Finset.univ_nonempty w
def topOf (w : Fin 2048 → ℝ) : ℝ := Finset.univ.sup' Finset.univ_nonempty w

include hs

theorem first_holds : Holds r (k1_pay46 s, k1_pay47 s) (lowOf w - 1, topOf w) := by
  constructor
  · dsimp only
    unfold k1_pay46
    pointwise
    simp only [hs, ofBits_top, lowOf, EReal.coe_sub]
    rw [fold_min_coe]
    rfl
  · dsimp only
    unfold k1_pay47
    pointwise
    simp only [hs, ofBits_bot, topOf]
    rw [fold_max_coe]

theorem trip_holds (a : FVec Ideal S32x1 .f32 × FVec Ideal S32x1 .f32) (e : ℝ × ℝ) (h : Holds r a e) :
    Holds r (k1_pay50 s a.1 a.2, k1_pay51 s a.1 a.2) (halve (fun t => 128 ≤ mass w t) e) := by
  obtain ⟨h1, h2⟩ := h
  constructor
  · show k1_pay50 s a.1 a.2 (ix2 r 0) = _
    unfold k1_pay50 k1_pay49 k1_pay48
    pointwise
    simp only [hs, h1, h2, ofBits_128, ofBits_half, ← EReal.coe_add, ← EReal.coe_mul, ← EReal.coe_sub, coe_max_zero,
      coe_sum, EReal.coe_le_coe_iff]
    refine Eq.trans (if_congr ?_ rfl rfl) (halve_fst _ _).symm
    rw [mass]
  · show k1_pay51 s a.1 a.2 (ix2 r 0) = _
    unfold k1_pay51 k1_pay49 k1_pay48
    pointwise
    simp only [hs, h1, h2, ofBits_128, ofBits_half, ← EReal.coe_add, ← EReal.coe_mul, ← EReal.coe_sub, coe_max_zero,
      coe_sum, EReal.coe_le_coe_iff]
    refine Eq.trans (if_congr ?_ rfl rfl) (halve_snd _ _).symm
    rw [mass]

theorem endsA_holds : Holds r (endsA s) (tauEnds w (lowOf w) (topOf w) 128) := by
  have := fold_halve (N := k1_t1_loop.trips) r _ _ (trip_holds s r w hs) _ _ (first_holds s r w hs)
  rw [show k1_t1_loop.trips = 44 by decide +kernel] at this
  exact this

/-- The clipped scores of a row. -/
def clipped (w : Fin 2048 → ℝ) (i : Fin 2048) : ℝ := max (w i - tauOf w (lowOf w) (topOf w) 128) 0

theorem pay52_real (i : Fin 2048) : k1_pay52 s (endsA s).1 (endsA s).2 (ix2 r i) = (clipped w i : EReal) := by
  obtain ⟨h1, h2⟩ := endsA_holds s r w hs
  unfold k1_pay52
  pointwise
  simp only [hs, h1, h2, ofBits_half, ← EReal.coe_add, ← EReal.coe_mul, ← EReal.coe_sub, coe_max_zero]
  rfl

theorem second_holds : Holds r (k1_pay53, k1_pay54 s (endsA s).1 (endsA s).2) (-1, topOf (clipped w)) := by
  constructor
  · dsimp only
    unfold k1_pay53
    pointwise
    exact ofBits_neg_one
  · dsimp only
    unfold k1_pay54
    pointwise
    simp only [pay52_real s r w hs, ofBits_bot, topOf]
    rw [fold_max_coe]

theorem trip2_holds (a : FVec Ideal S32x1 .f32 × FVec Ideal S32x1 .f32) (e : ℝ × ℝ) (h : Holds r a e) :
    Holds r (k1_pay57 s (endsA s).1 (endsA s).2 a.1 a.2, k1_pay58 s (endsA s).1 (endsA s).2 a.1 a.2)
      (halve (fun t => ((128 : ℕ) : ℝ) ≤ above (clipped w) t) e) := by
  obtain ⟨h1, h2⟩ := h
  constructor
  · show k1_pay57 s _ _ a.1 a.2 (ix2 r 0) = _
    unfold k1_pay57 k1_pay56 k1_pay55
    pointwise
    simp only [pay52_real s r w hs, h1, h2, ofBits_128, ofBits_half, ← EReal.coe_add, ← EReal.coe_mul, EReal.coe_lt_coe_iff,
      sum_ite_one, EReal.coe_le_coe_iff]
    refine Eq.trans (if_congr ?_ rfl rfl) (halve_fst _ _).symm
    rw [above, Nat.cast_ofNat]
  · show k1_pay58 s _ _ a.1 a.2 (ix2 r 0) = _
    unfold k1_pay58 k1_pay56 k1_pay55
    pointwise
    simp only [pay52_real s r w hs, h1, h2, ofBits_128, ofBits_half, ← EReal.coe_add, ← EReal.coe_mul, EReal.coe_lt_coe_iff,
      sum_ite_one, EReal.coe_le_coe_iff]
    refine Eq.trans (if_congr ?_ rfl rfl) (halve_snd _ _).symm
    rw [above, Nat.cast_ofNat]

theorem endsB_holds : Holds r (endsB s) (cutEnds (clipped w) (topOf (clipped w)) 128) := by
  have := fold_halve (N := k1_t2_loop.trips) r _ _ (trip2_holds s r w hs) _ _ (second_holds s r w hs)
  rw [show k1_t2_loop.trips = 50 by decide +kernel] at this
  exact this

/-- What is kept of a row. -/
def Keep (w : Fin 2048 → ℝ) (i : Fin 2048) : Prop :=
  Kept (clipped w) (cutEnds (clipped w) (topOf (clipped w)) 128) 128 i

omit hs in
theorem select_ofBool {α : Type} (p : Prop) [Decidable p] (a b : α) :
    Scalar.select (BitVec.ofBool (decide p)) a b = if p then a else b := by
  by_cases h : p <;> simp [h, Scalar.select]

/-- A kept position's slot counts the kept positions before it; the others hold minus one. -/
theorem slots_real (U : Vec Ideal S2048x2048 .bf16) (hU : ∀ x i : Fin 2048, U (ix2 x i) = if x ≤ i then (1 : EReal) else 0)
    (i : Fin 2048) : slots s U (ix2 r i) =
      (((if Keep w i then ((Finset.univ.filter fun j => j ≤ i ∧ Keep w j).card : ℝ) - 1 else -1 : ℝ)) : EReal) := by
  obtain ⟨h1, h2⟩ := endsB_holds s r w hs
  have hp := pay52_real s r w hs
  unfold Keep
  generalize cutEnds (clipped w) (topOf (clipped w)) 128 = b at h1 h2
  have hc : ∀ x : Fin 2048, IntOp.andi (BitVec.ofBool (decide ((b.1 : EReal) < (clipped w x : EReal))))
      (IntOp.xori (BitVec.ofBool (decide ((b.2 : EReal) < (clipped w x : EReal)))) 1#1)
        = BitVec.ofBool (decide (Tied (clipped w) b x)) := fun x => by
    simp only [EReal.coe_lt_coe_iff, Tied]
    by_cases p : b.1 < clipped w x <;> by_cases q : b.2 < clipped w x <;> simp [p, q, IntOp.andi, IntOp.xori]
  have hn : ∀ x : Fin 2048, (∑ y, if Tied (clipped w) b y then (if y ≤ x then (1 : EReal) else 0) else 0)
      = ((tiedUpTo (clipped w) b x : ℝ) : EReal) := fun x => by
    rw [tiedUpTo, ← sum_ite_one]
    refine Finset.sum_congr rfl fun y _ => ?_
    by_cases p : Tied (clipped w) b y <;> by_cases q : y ≤ x <;> simp [p, q]
  have hk : ∀ x : Fin 2048, IntOp.ori (BitVec.ofBool (decide ((b.2 : EReal) < (clipped w x : EReal))))
      (IntOp.andi (BitVec.ofBool (decide (Tied (clipped w) b x)))
        (BitVec.ofBool (decide (((tiedUpTo (clipped w) b x : ℝ) : EReal) ≤ ((128 - (above (clipped w) b.2 : ℝ) : ℝ) : EReal)))))
      = BitVec.ofBool (decide (Kept (clipped w) b 128 x)) := fun x => by
    simp only [EReal.coe_lt_coe_iff, EReal.coe_le_coe_iff, Kept, Nat.cast_ofNat]
    by_cases p : b.2 < clipped w x <;> by_cases q : Tied (clipped w) b x <;>
      by_cases q' : (tiedUpTo (clipped w) b x : ℝ) ≤ 128 - (above (clipped w) b.2 : ℝ) <;> simp [p, q, q', IntOp.andi, IntOp.ori]
  have hm : ∀ x : Fin 2048, (∑ y, if Kept (clipped w) b 128 y then (if y ≤ x then (1 : EReal) else 0) else 0)
      = (((Finset.univ.filter fun j => j ≤ x ∧ Kept (clipped w) b 128 j).card : ℝ) : EReal) := fun x => by
    rw [← sum_ite_one]
    refine Finset.sum_congr rfl fun y _ => ?_
    by_cases p : Kept (clipped w) b 128 y <;> by_cases q : y ≤ x <;> simp [p, q]
  have ha : (∑ x, if (b.2 : EReal) < (clipped w x : EReal) then (1 : EReal) else 0) = ((above (clipped w) b.2 : ℝ) : EReal) := by
    simp only [EReal.coe_lt_coe_iff, sum_ite_one, above]
  unfold slots k1_pay1 k1_pay62 k1_pay61 k1_pay60 k1_pay59
  pointwise
  simp only [hp, h1, h2, hU, hc, select_ofBool, hn, ofBits_128, ofBits_neg_one]
  simp only [ha, ← EReal.coe_sub, hk, select_ofBool, hm]
  split <;> simp
end Cert.KernelIdeal.Gen

end

end
-- ==== Proof.Attend.lean ====
/- Attention over the kept positions, as a function of the logits and of the kept values. -/
module

public import Idealize.ShloMosaic.Init
public import Idealize.ShloMosaic.Lib.Pointwise

@[expose] public section

noncomputable section

namespace Cert.Attend

open Idealize.ShloMosaic

/-- What a maximum over no entries starts from. -/
def least : EReal := Ideal.ofBits FTy.f32 0xFF800000#32

/-- The largest of the logits `l`. -/
def peak (l : Fin 128 → EReal) : EReal := Finset.fold max least l Finset.univ

/-- The softmax weight of entry `r`. -/
def weight (l : Fin 128 → EReal) (r : Fin 128) : EReal :=
  Ideal.div (Ideal.exp (l r - peak l)) (∑ r', Ideal.exp (l r' - peak l))

/-- The values `v` under the softmax of the logits `l`. -/
def attend (l v : Fin 128 → EReal) : EReal := ∑ r, weight l r * v r

theorem max_peak (l : Fin 128 → EReal) : max least (peak l) = peak l :=
  max_eq_right ((Finset.le_fold_max _).mpr (.inl le_rfl))

theorem peak_perm (l : Fin 128 → EReal) (σ : Equiv.Perm (Fin 128)) : peak (fun r => l (σ r)) = peak l := by
  unfold peak
  apply le_antisymm <;> rw [Finset.fold_max_le] <;> refine ⟨(Finset.le_fold_max _).mpr (.inl le_rfl), fun r _ => ?_⟩
  · exact (Finset.le_fold_max _).mpr (.inr ⟨σ r, Finset.mem_univ _, le_rfl⟩)
  · exact (Finset.le_fold_max _).mpr (.inr ⟨σ.symm r, Finset.mem_univ _, by simp⟩)

/-- The order in which the kept positions are listed does not matter. -/
theorem attend_perm (l v : Fin 128 → EReal) (σ : Equiv.Perm (Fin 128)) :
    attend (fun r => l (σ r)) (fun r => v (σ r)) = attend l v := by
  unfold attend weight
  rw [peak_perm l σ, Equiv.sum_comp σ fun r => Ideal.exp (l r - peak l)]
  exact Equiv.sum_comp σ fun r => Ideal.div (Ideal.exp (l r - peak l)) (∑ r', Ideal.exp (l r' - peak l)) * v r

/-- Two listings of the same positions give the same attention. -/
theorem attend_eq {n : ℕ} (σ ρ : Fin 128 → Fin n) (hσ : Function.Injective σ) (hρ : Function.Injective ρ)
    (h : Set.range σ = Set.range ρ) (l v : Fin n → EReal) :
    attend (fun r => l (σ r)) (fun r => v (σ r)) = attend (fun r => l (ρ r)) (fun r => v (ρ r)) := by
  let e : Equiv.Perm (Fin 128) :=
    (Equiv.ofInjective σ hσ).trans ((Equiv.setCongr h).trans (Equiv.ofInjective ρ hρ).symm)
  have he : ∀ r, ρ (e r) = σ r := fun r => by
    have := Equiv.apply_ofInjective_symm hρ (Equiv.setCongr h (Equiv.ofInjective σ hσ r))
    simpa [e] using this
  rw [← attend_perm (fun r => l (ρ r)) (fun r => v (ρ r)) e]
  simp only [he]

end Cert.Attend

end

end
-- ==== Proof.KAttn.lean ====
/- The attention launch: its result array is the attention over the positions the slot row names. -/
module

public import proofs.«01_k».proof.Proof.KProj
public import proofs.«01_k».proof.Proof.Attend

@[expose] public section

set_option maxRecDepth 16384

noncomputable section

namespace Cert.KernelIdeal.Gen

open Idealize.ShloMosaic Idealize.ShloMosaic.TcCoe Idealize.ShloMosaic.Tactic Cert.Attend

variable (V : (c : Dev nD) → (b : Ref sig .tc) → Buf (Elt Ideal) ((c : Thread nD τ).loc b))

theorem idx2_0 : ∀ t : Fin cfg2.N, win2_0.index t = ![t.val / 16, t.val % 16] := (by decide +kernel : ∀ t : Fin grid2.N, _)
theorem idx2_1 : ∀ t : Fin cfg2.N, win2_1.index t = ![t.val / 16, t.val % 16] := (by decide +kernel : ∀ t : Fin grid2.N, _)
theorem idx2_2 : ∀ t : Fin cfg2.N, win2_2.index t = ![t.val / 16, t.val % 16] := (by decide +kernel : ∀ t : Fin grid2.N, _)
theorem idx2_3 : ∀ t : Fin cfg2.N, win2_3.index t = ![t.val, 0, 0] := (by decide +kernel : ∀ t : Fin grid2.N, _)
theorem idx2_4 : ∀ t : Fin cfg2.N, win2_4.index t = ![t.val / 16, t.val % 16] := (by decide +kernel : ∀ t : Fin grid2.N, _)

/-- The kept entries of `a` in listing order: entry `r` sums the positions whose slot is `r`. -/
def picked (slot a : Fin 2048 → EReal) (r : Fin 128) : EReal :=
  ∑ x, Scalar.select (IntOp.cmpi CmpIPredicate.eq (BitVec.ofNat 32 r.val) (FloatOps.fptosi (F := Ideal) (φ := .f32) 32 (slot x))) (a x) 0

/-- The factor the logits are scaled by. -/
def scale : EReal := Named.named (F := Ideal) κ "inv_sqrt_dh" (φ := .f32) 0x3DB504F3#32

theorem pay2_apply (v0 : Vec Ideal S1x1x2048 .f32) (v10 v14 v18 : Vec Ideal S2048x128 .bf16) (y : S2048x128.Idx) :
    k2_pay1 v0 v10 v14 v18 y =
      attend (fun r => (∑ e : Fin 128, v18 (ix2 (y 0) e) * picked (fun x => v0 (ix3 0 0 x)) (fun x => v10 (ix2 x e)) r) * scale)
        (fun r => picked (fun x => v0 (ix3 0 0 x)) (fun x => v14 (ix2 x (y 1))) r) := by
  unfold k2_pay1
  pointwise
  rfl

/-- Row `x` of the sequence that row `i` belongs to. -/
def rowAt (i : Fin 4096) (x : Fin 2048) : Fin 4096 := ⟨2048 * (i.val / 2048) + x.val, by omega⟩

/-- Entry `e` of the head that column `i` belongs to. -/
def colAt (i : Fin 2048) (e : Fin 128) : Fin 2048 := ⟨128 * (i.val / 128) + e.val, by omega⟩

/-- The sequence and head of an entry, as a row of the slots. -/
def headAt (i : S4096x2048.Idx) : Fin 32 :=
  ⟨16 * ((i 0).val / 2048) + (i 1).val / 128, by
    have h0 : (i 0).val < 4096 := (i 0).isLt
    have h1 : (i 1).val < 2048 := (i 1).isLt
    omega⟩

/-- Attention per sequence and head over the positions `slot` names. -/
def headsAttend (q k v : S4096x2048.Idx → EReal) (slot : S32x1x2048.Idx → EReal) (i : S4096x2048.Idx) : EReal :=
  attend (fun r => (∑ e : Fin 128, q (ix2 (i 0) (colAt (i 1) e)) *
      picked (fun x => slot (ix3 (headAt i) 0 x)) (fun x => k (ix2 (rowAt (i 0) x) (colAt (i 1) e))) r) * scale)
    (fun r => picked (fun x => slot (ix3 (headAt i) 0 x)) (fun x => v (ix2 (rowAt (i 0) x) (i 1))) r)

set_option maxHeartbeats 1600000 in
theorem arr2_4 (c : Dev nD) :
    (dat2 V c).arrAt 4 cfg2.N = headsAttend (V c main_v4_0) (V c main_v4_1) (V c main_v4_2) (V c main_v17) := by
  refine (dat2 V c).arrAt_eq_of_covers 4 _ (by decide +kernel) fun t hf y => ?_
  blk_simp
  rw [after2_4]
  unfold out2_4
  frame_out
  rw [pay2_apply]
  unfold headsAttend
  idx_bounds y
  have ht := t.isLt
  have hs : ∀ x : Fin 2048, iblk2 V c 3 t (ix3 0 0 x) = V c main_v17 (ix3 (headAt (((View.whole main_v18).slice (win2_4.rect t)).emb y)) 0 x) := fun x => by
    blk_simp [iblk2]
    congr 1
    blk_ext [idx2_3, idx2_4, headAt]
  have hk : ∀ (x : Fin 2048) e, iblk2 V c 1 t (ix2 x e) = V c main_v4_1 (ix2 (rowAt ((((View.whole main_v18).slice (win2_4.rect t)).emb y) 0) x) (colAt ((((View.whole main_v18).slice (win2_4.rect t)).emb y) 1) e)) := fun x e => by
    blk_simp [iblk2]
    congr 1
    blk_ext [idx2_1, idx2_4, rowAt, colAt]
  have hv : ∀ x : Fin 2048, iblk2 V c 2 t (ix2 x (y 1)) = V c main_v4_2 (ix2 (rowAt ((((View.whole main_v18).slice (win2_4.rect t)).emb y) 0) x) ((((View.whole main_v18).slice (win2_4.rect t)).emb y) 1)) := fun x => by
    blk_simp [iblk2]
    congr 1
    blk_ext [idx2_2, idx2_4, rowAt]
  have hq : ∀ e, iblk2 V c 0 t (ix2 (y 0) e) = V c main_v4_0 (ix2 ((((View.whole main_v18).slice (win2_4.rect t)).emb y) 0) (colAt ((((View.whole main_v18).slice (win2_4.rect t)).emb y) 1) e)) := fun e => by
    blk_simp [iblk2]
    congr 1
    blk_ext [idx2_0, idx2_4, colAt]
  simp only [hs, hk, hv, hq]

end Cert.KernelIdeal.Gen

end

end
-- ==== Proof.Order.lean ====
/- A stable descending sort puts every entry at its place. -/
module

public import Idealize.ShloMosaic.Lib.SortFacts
public import proofs.«01_k».proof.Proof.Bisect

@[expose] public section

noncomputable section

namespace Cert.Select

open Idealize.ShloMosaic

open Classical

variable {n : ℕ}

/-- Two relations that agree whenever the first operand stands later in the list sort the list alike. -/
theorem stableSort_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Entries in descending order, equal entries by index. -/
def order (w : Fin n → ℝ) : Fin n → Fin n := sortedFrom fun a b => decide (w b < w a)

theorem order_injective (w : Fin n → ℝ) : Function.Injective (order w) := sortedFrom_injective _

theorem order_surjective (w : Fin n → ℝ) : Function.Surjective (order w) := sortedFrom_surjective _

theorem order_eq (w : Fin n → ℝ) : order w = sortedFrom fun a b => decide (Ahead w a b) := by
  have h : sortPositions n (fun a b => decide (w b < w a)) = sortPositions n fun a b => decide (Ahead w a b) := by
    unfold sortPositions
    refine stableSort_later _ _ _ ?_
    refine (List.pairwise_lt_finRange n).imp ?_
    intro a b hab
    refine decide_eq_decide.mpr ?_
    unfold Ahead
    constructor
    · exact fun h => Or.inl h
    · rintro (h | ⟨_, h⟩)
      · exact h
      · exact absurd h (not_lt.mpr hab.le)
  funext k
  unfold order sortedFrom
  rw [List.get_of_eq h]
  rfl

theorem ahead_asymm (w : Fin n → ℝ) (a b : Fin n) (h : Ahead w a b) : ¬ Ahead w b a := by
  unfold Ahead at *
  rintro (h' | ⟨h1, h2⟩) <;> rcases h with h | ⟨h3, h4⟩
  · exact lt_asymm h h'
  · exact h3 h'
  · exact h1 h
  · exact lt_asymm h2 h4

theorem ahead_total (w : Fin n → ℝ) (a b : Fin n) (hab : a ≠ b) (h : ¬ Ahead w b a) : Ahead w a b := by
  unfold Ahead at *
  rw [not_or, not_and] at h
  rcases lt_trichotomy (w a) (w b) with h1 | h1 | h1
  · exact absurd h1 h.1
  · exact Or.inr ⟨by rw [h1]; exact lt_irrefl _, lt_of_le_of_ne (not_lt.mp (h.2 (by rw [h1]; exact lt_irrefl _))) hab⟩
  · exact Or.inl h1

theorem ahead_neg_trans (w : Fin n → ℝ) (a b c : Fin n) (h1 : ¬ Ahead w a b) (h2 : ¬ Ahead w b c) : ¬ Ahead w a c := by
  unfold Ahead at *
  simp only [not_or, not_and, not_lt] at *
  refine ⟨h1.1.trans h2.1, fun h => ?_⟩
  have e1 : w b ≤ w a := h2.1.trans h
  have e2 : w c ≤ w b := h.trans h1.1
  exact (h2.2 e2).trans (h1.2 e1)

theorem order_ahead (w : Fin n → ℝ) (i j : Fin n) (hij : i < j) : Ahead w (order w i) (order w j) := by
  refine ahead_total w _ _ (fun e => hij.ne (order_injective w e)) ?_
  rw [order_eq]
  have := sortedFrom_noInversion (fun a b => decide (Ahead w a b)) (fun a b => decide (Ahead w a b))
    (fun a b h => decide_eq_false (ahead_asymm w a b (of_decide_eq_true h))) (fun _ _ h => h)
    (fun a b c h1 h2 => decide_eq_false (ahead_neg_trans w a b c (of_decide_eq_false h1) (of_decide_eq_false h2))) i j hij
  exact of_decide_eq_false this

/-- The values stand in descending order. -/
theorem order_antitone (w : Fin n → ℝ) : Antitone fun j => w (order w j) := by
  intro i j hij
  rcases hij.eq_or_lt with rfl | h
  · exact le_refl _
  · rcases order_ahead w i j h with h | ⟨h, _⟩
    · exact h.le
    · exact not_lt.mp h

/-- The entry at position `r` of the descending order has place `r`. -/
theorem place_order (w : Fin n → ℝ) (r : Fin n) : place w (order w r) = r.val := by
  unfold place
  have : (Finset.univ.filter fun j => Ahead w j (order w r)) = (Finset.univ.filter fun i => i < r).image (order w) := by
    ext j
    obtain ⟨i, rfl⟩ := order_surjective w j
    simp only [Finset.mem_filter, Finset.mem_univ, true_and, Finset.mem_image]
    constructor
    · intro h
      refine ⟨i, ?_, rfl⟩
      by_contra hi
      rcases (not_lt.mp hi).eq_or_lt with rfl | hlt
      · exact ahead_asymm w _ _ h h
      · exact ahead_asymm w _ _ h (order_ahead w _ _ hlt)
    · rintro ⟨i', hi', e⟩
      rw [← e]
      exact order_ahead w _ _ hi'
  rw [this, Finset.card_image_of_injective _ (order_injective w)]
  have : (Finset.univ.filter fun i => i < r) = Finset.Iio r := by ext; simp
  rw [this, Fin.card_Iio]

/-- The entries of place below `K` are the first `K` of the descending order. -/
theorem place_lt_iff (w : Fin n → ℝ) (K : ℕ) (hK : K ≤ n) (x : Fin n) :
    place w x < K ↔ ∃ r : Fin K, order w (Fin.castLE hK r) = x := by
  obtain ⟨i, rfl⟩ := order_surjective w x
  rw [place_order]
  constructor
  · intro h
    exact ⟨⟨i, h⟩, rfl⟩
  · rintro ⟨r, hr⟩
    rw [← order_injective w hr]
    exact r.isLt

/-- There are exactly `K` of them. -/
theorem card_place_lt (w : Fin n → ℝ) (K : ℕ) (hK : K ≤ n) : (Finset.univ.filter fun x => place w x < K).card = K := by
  have : (Finset.univ.filter fun x => place w x < K) = Finset.univ.image fun r : Fin K => order w (Fin.castLE hK r) := by
    ext x
    simp [place_lt_iff w K hK]
  rw [this, Finset.card_image_of_injective, Finset.card_univ, Fintype.card_fin]
  intro a b h
  exact Fin.castLE_injective hK (order_injective w h)

/-- A set of `K` indices listed in increasing order: the member with `r + 1` members up to it is the `r`-th. -/
theorem listing (p : Fin n → Prop) (K : ℕ) (hp : (Finset.univ.filter p).card = K) :
    ∃ σ : Fin K → Fin n, Function.Injective σ ∧ (∀ x, p x ↔ x ∈ Set.range σ) ∧
      ∀ x (r : Fin K), p x → ((Finset.univ.filter fun j => j ≤ x ∧ p j).card = r.val + 1 ↔ x = σ r) := by
  refine ⟨(Finset.univ.filter p).orderEmbOfFin hp, ((Finset.univ.filter p).orderEmbOfFin hp).injective, ?_, ?_⟩
  · intro x
    rw [Finset.range_orderEmbOfFin]
    simp
  · intro x r hx
    have hx' : x ∈ Set.range ((Finset.univ.filter p).orderEmbOfFin hp) := by
      rw [Finset.range_orderEmbOfFin]; simpa using hx
    obtain ⟨q, rfl⟩ := hx'
    have : (Finset.univ.filter fun j => j ≤ (Finset.univ.filter p).orderEmbOfFin hp q ∧ p j)
        = (Finset.Iic q).map ((Finset.univ.filter p).orderEmbOfFin hp).toEmbedding := by
      ext j
      simp only [Finset.mem_filter, Finset.mem_univ, true_and, Finset.mem_map, Finset.mem_Iic]
      constructor
      · rintro ⟨h1, h2⟩
        have hj : j ∈ Set.range ((Finset.univ.filter p).orderEmbOfFin hp) := by
          rw [Finset.range_orderEmbOfFin]; simpa using h2
        obtain ⟨i, rfl⟩ := hj
        exact ⟨i, ((Finset.univ.filter p).orderEmbOfFin hp).le_iff_le.mp h1, rfl⟩
      · rintro ⟨i, h1, rfl⟩
        refine ⟨((Finset.univ.filter p).orderEmbOfFin hp).le_iff_le.mpr h1, ?_⟩
        have := Finset.orderEmbOfFin_mem (Finset.univ.filter p) hp i
        simpa using (Finset.mem_filter.mp this).2
    rw [this, Finset.card_map, Fin.card_Iic]
    constructor
    · intro h
      rw [Fin.ext (show q.val = r.val by omega)]
    · intro h
      rw [((Finset.univ.filter p).orderEmbOfFin hp).injective h]

end Cert.Select

end

end
-- ==== Proof.KPick.lean ====
/- Which rows the slots pick: for real scores apart from one another, the 128 that the exact threshold keeps. -/
module

public import proofs.«01_k».proof.Proof.KSlot
public import proofs.«01_k».proof.Proof.KAttn
public import proofs.«01_k».proof.Proof.Order

@[expose] public section

set_option maxRecDepth 16384

noncomputable section

namespace Cert.KernelIdeal.Gen

open Idealize.ShloMosaic Idealize.ShloMosaic.TcCoe Idealize.ShloMosaic.Tactic Cert.Select Cert.Reals
open Classical

/-- The row's mask keeps exactly the tokens with fewer than 128 ahead of them above any exact threshold. -/
theorem keep_iff (w : Fin 2048 → ℝ) (A : Apart w (lowOf w) (topOf w) 128) (t : ℝ) (ht : mass w t = 128)
    (x : Fin 2048) : Keep w x ↔ place (fun i => max (w i - t) 0) x < 128 := by
  have hA : Apart w (lowOf w) (topOf w) ((128 : ℕ) : ℝ) := by exact_mod_cast A
  have h := kept_cutEnds hA (by norm_num) (by norm_num) t (by exact_mod_cast ht) (topOf (clipped w))
    (fun i => Finset.le_sup' (clipped w) (Finset.mem_univ i))
    (Finset.sup'_le _ _ fun i _ => max_le
      (by
        have h1 := tauOf_ge A (by norm_num) (by norm_num)
        have h2 := A.le_hi i
        linarith)
      (by
        have h1 := A.le_lo x
        have h2 := A.le_hi x
        linarith)) x
  exact h

/-- The slot of a token, for a row of real scores. -/
def slotOf (w : Fin 2048 → ℝ) (i : Fin 2048) : EReal :=
  ((if Keep w i then ((Finset.univ.filter fun j => j ≤ i ∧ Keep w j).card : ℝ) - 1 else -1 : ℝ) : EReal)

theorem fptosi_nat (k : ℕ) (hk : k ≤ 2048) :
    FloatOps.fptosi (F := Ideal) (φ := .f32) 32 (((k : ℝ) : EReal)) = BitVec.ofNat 32 k := by
  show Ideal.fptosi 32 ((k : ℝ) : EReal) = _
  rw [Ideal.fptosi, Ideal.toIntClamped_coe, if_pos (Nat.cast_nonneg k), Int.floor_natCast]
  norm_num
  rw [min_eq_right (by omega)]
  exact BitVec.ofInt_natCast 32 k

theorem fptosi_neg : FloatOps.fptosi (F := Ideal) (φ := .f32) 32 (((-1 : ℝ) : EReal)) = BitVec.ofInt 32 (-1) := by
  show Ideal.fptosi 32 ((-1 : ℝ) : EReal) = _
  rw [Ideal.fptosi, Ideal.toIntClamped_coe, if_neg (by norm_num)]
  have h : ⌈(-1 : ℝ)⌉ = -1 := by
    have := Int.ceil_intCast (R := ℝ) (-1)
    push_cast at this
    exact this
  rw [h]
  norm_num

/-- The slots list the kept tokens: picking through them reads the listed token. -/
theorem picked_slotOf (w : Fin 2048 → ℝ) (A : Apart w (lowOf w) (topOf w) 128) (t : ℝ) (ht : mass w t = 128) :
    ∃ σ : Fin 128 → Fin 2048, Function.Injective σ
      ∧ (∀ x, place (fun i => max (w i - t) 0) x < 128 ↔ x ∈ Set.range σ)
      ∧ ∀ (a : Fin 2048 → EReal) (r : Fin 128), picked (slotOf w) a r = a (σ r) := by
  have hk := keep_iff w A t ht
  have hc : (Finset.univ.filter fun x => Keep w x).card = 128 := by
    rw [← card_place_lt (fun i => max (w i - t) 0) 128 (by norm_num)]
    exact congrArg Finset.card (Finset.filter_congr fun x _ => hk x)
  obtain ⟨σ, inj, hσ, hr⟩ := listing (Keep w) 128 hc
  refine ⟨σ, inj, fun x => (hk x).symm.trans (hσ x), fun a r => ?_⟩
  have hit : ∀ x, IntOp.cmpi CmpIPredicate.eq (BitVec.ofNat 32 r.val)
      (FloatOps.fptosi (F := Ideal) (φ := .f32) 32 (slotOf w x)) = BitVec.ofBool (decide (x = σ r)) := by
    intro x
    unfold slotOf
    by_cases hx : Keep w x
    · obtain ⟨q, hq⟩ := (hσ x).1 hx
      have hcard := (hr x q hx).2 hq.symm
      rw [if_pos hx, hcard]
      have e : (((q.val + 1 : ℕ) : ℝ) - 1) = ((q.val : ℕ) : ℝ) := by push_cast; ring
      rw [e, fptosi_nat _ (by omega)]
      show BitVec.ofBool (BitVec.ofNat 32 r.val == BitVec.ofNat 32 q.val) = _
      refine congrArg BitVec.ofBool ?_
      rw [← hq, Bool.eq_iff_iff, beq_iff_eq, decide_eq_true_iff]
      constructor
      · intro h
        have h' := congrArg BitVec.toNat h
        rw [BitVec.toNat_ofNat, BitVec.toNat_ofNat, Nat.mod_eq_of_lt (by omega), Nat.mod_eq_of_lt (by omega)] at h'
        rw [Fin.ext h']
      · intro h
        rw [inj h]
    · rw [if_neg hx, fptosi_neg]
      have hne : x ≠ σ r := fun h => hx ((hσ x).2 ⟨r, h.symm⟩)
      rw [decide_eq_false hne]
      show BitVec.ofBool (BitVec.ofNat 32 r.val == BitVec.ofInt 32 (-1)) = _
      refine congrArg BitVec.ofBool ?_
      rw [beq_eq_false_iff_ne]
      intro h
      have h' := congrArg BitVec.toNat h
      rw [BitVec.toNat_ofNat, Nat.mod_eq_of_lt (by omega)] at h'
      have h2 : (BitVec.ofInt 32 (-1)).toNat = 4294967295 := by decide
      omega
  unfold picked
  rw [Finset.sum_eq_single (σ r)]
  · rw [hit, select_ofBool, if_pos rfl]
  · intro x _ hx
    rw [hit, select_ofBool, if_neg hx]
  · intro h
    exact absurd (Finset.mem_univ _) h

/-- The named scale is `1 / √128`. -/
theorem scale_eq : scale = (((Real.sqrt 128)⁻¹ : ℝ) : EReal) :=
  IdealRules.named_const.ideal_named_scalar _ _ _ _ rfl

end Cert.KernelIdeal.Gen

end

end
-- ==== Proof.KVals.lean ====
/- What the host operations and the regions leave in the kernel's arrays, entry by entry. -/
module

public import proofs.«01_k».proof.Proof.KProj
public import proofs.«01_k».proof.Proof.KSelect
public import proofs.«01_k».proof.Proof.KAttn

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (ρ : Dev nD → PrngReg) (c : Dev nD)

theorem entry_tokens : V1 m ρ c main_v0 = (shapeCast S4096x2048 (m ((c.tc : Thread nD τ).loc main_arg0)) shapeCasts_S2x2048x2048_S4096x2048 : FVec Ideal S4096x2048 .f32) := by
  unfold_abbrev_sides
  after_results
  rfl
theorem entry_wq : V1 m ρ c main_v1 = ((m ((c.tc : Thread nD τ).loc main_arg1)) : FVec Ideal S2048x2048 .f32) := by
  unfold_abbrev_sides
  after_results
  rfl
theorem entry_wk : V1 m ρ c main_v2 = ((m ((c.tc : Thread nD τ).loc main_arg2)) : FVec Ideal S2048x2048 .f32) := by
  unfold_abbrev_sides
  after_results
  rfl
theorem entry_wv : V1 m ρ c main_v3 = ((m ((c.tc : Thread nD τ).loc main_arg3)) : FVec Ideal S2048x2048 .f32) := by
  unfold_abbrev_sides
  after_results
  rfl

theorem uitofp_ofBool (a : Bool) : FloatOps.uitofp (F := Ideal) .bf16 (BitVec.ofBool a) = if a then (1 : EReal) else 0 := by
  cases a
  · show (((0#1).toNat : ℝ) : EReal) = _
    simp
  · show (((1#1).toNat : ℝ) : EReal) = _
    simp

theorem sle_fin (i j : Fin 2048) : BitVec.sle (BitVec.ofNat 32 i.val) (BitVec.ofNat 32 j.val) = decide (i ≤ j) := by
  have h : ∀ k : Fin 2048, (BitVec.ofNat 32 k.val).toInt = (k.val : Int) := fun k => by
    rw [BitVec.toInt_ofNat']
    exact Int.bmod_eq_of_le (by omega) (by omega)
  rw [BitVec.sle, h, h]
  exact decide_eq_decide.2 (by rw [Fin.le_def]; omega)

theorem upper_apply (i j : Fin 2048) : (V3 m ρ c main_v11 : FVec Ideal S2048x2048 .bf16) (ix2 i j) = if i ≤ j then (1 : EReal) else 0 := by
  unfold_abbrev_sides
  after_results
  pointwise
  refine (uitofp_ofBool (BitVec.sle (BitVec.ofNat 32 i.val) (BitVec.ofNat 32 j.val))).trans ?_
  rw [sle_fin]
  by_cases h : i ≤ j
  · rw [decide_eq_true h, if_pos h]; rfl
  · rw [decide_eq_false h, if_neg h]; rfl

theorem entry_w1 : V3 m ρ c main_v12 = ((m ((c.tc : Thread nD τ).loc main_arg5)) : FVec Ideal S128x128 .f32) := by
  unfold_abbrev_sides
  after_results
  rw [W2_args m ρ c main_arg5 (by decide)]
  rfl
theorem entry_w2 : V3 m ρ c main_v14 = ((m ((c.tc : Thread nD τ).loc main_arg7)) : FVec Ideal S1x128 .f32) := by
  unfold_abbrev_sides
  after_results
  rw [W2_args m ρ c main_arg7 (by decide)]
  rfl
theorem entry_wo : V7 m ρ c main_v19 = ((m ((c.tc : Thread nD τ).loc main_arg4)) : FVec Ideal S2048x2048 .f32) := by
  unfold_abbrev_sides
  after_results
  rw [W6_args m ρ c main_arg4 (by decide)]
  rfl
theorem entry_b1 : V3 m ρ c main_v13 = (shapeCast S1x128 (m ((c.tc : Thread nD τ).loc main_arg6)) shapeCasts_S128_S1x128 : FVec Ideal S1x128 .f32) := by
  unfold_abbrev_sides
  after_results
  rw [W2_args m ρ c main_arg6 (by decide)]
  rfl
theorem entry_b2 : V3 m ρ c main_v15 = (shapeCast S1x1 (m ((c.tc : Thread nD τ).loc main_arg8)) shapeCasts_S1_S1x1 : FVec Ideal S1x1 .f32) := by
  unfold_abbrev_sides
  after_results
  rw [W2_args m ρ c main_arg8 (by decide)]
  rfl

theorem exit_q : W2 m ρ c (Proc.devRef .tc main_v4_0) = (rowsDot (V1 m ρ c main_v0) (V1 m ρ c main_v1) : FVec Ideal S4096x2048 .bf16) :=
  (W2_arr m ρ c 4).trans (arr0_4 (V1 m ρ) c)
theorem exit_k : W2 m ρ c (Proc.devRef .tc main_v4_1) = (rowsDot (V1 m ρ c main_v0) (V1 m ρ c main_v2) : FVec Ideal S4096x2048 .bf16) :=
  (W2_arr m ρ c 5).trans (arr0_5 (V1 m ρ) c)
theorem exit_v : W2 m ρ c (Proc.devRef .tc main_v4_2) = (rowsDot (V1 m ρ c main_v0) (V1 m ρ c main_v3) : FVec Ideal S4096x2048 .bf16) :=
  (W2_arr m ρ c 6).trans (arr0_6 (V1 m ρ) c)
theorem exit_slot : W4 m ρ c (Proc.devRef .tc main_v16) = (dat1 (V3 m ρ) c).arrAt 6 cfg1.N := W4_arr m ρ c 6

theorem later_k : V3 m ρ c main_v4_1 = W2 m ρ c (Proc.devRef .tc main_v4_1) := W3_of m ρ c main_v4_1 (by decide)
theorem last_q : V5 m ρ c main_v4_0 = W2 m ρ c (Proc.devRef .tc main_v4_0) :=
  (W5_of m ρ c main_v4_0 (by decide)).trans ((W4_of m ρ c main_v4_0 (by decide)).trans (W3_of m ρ c main_v4_0 (by decide)))
theorem last_k : V5 m ρ c main_v4_1 = W2 m ρ c (Proc.devRef .tc main_v4_1) :=
  (W5_of m ρ c main_v4_1 (by decide)).trans ((W4_of m ρ c main_v4_1 (by decide)).trans (W3_of m ρ c main_v4_1 (by decide)))
theorem last_v : V5 m ρ c main_v4_2 = W2 m ρ c (Proc.devRef .tc main_v4_2) :=
  (W5_of m ρ c main_v4_2 (by decide)).trans ((W4_of m ρ c main_v4_2 (by decide)).trans (W3_of m ρ c main_v4_2 (by decide)))
theorem entry_slot : V5 m ρ c main_v17 = (shapeCast S32x1x2048 (W4 m ρ c (Proc.devRef .tc main_v16)) shapeCasts_S32x2048_S32x1x2048 : FVec Ideal S32x1x2048 .f32) := by
  unfold_abbrev_sides
  after_results
  rfl
theorem exit_heads : V7 m ρ c main_v18 = (headsAttend (V5 m ρ c main_v4_0) (V5 m ρ c main_v4_1) (V5 m ρ c main_v4_2) (V5 m ρ c main_v17) : FVec Ideal S4096x2048 .bf16) :=
  (W7_of m ρ c main_v18 (by decide)).trans ((W6_arr m ρ c 4).trans (arr2_4 (V5 m ρ) c))
theorem exit_out : W8 m ρ c (Proc.devRef .tc main_v20) = (rowsDot (V7 m ρ c main_v18) (V7 m ρ c main_v19) : FVec Ideal S4096x2048 .f32) :=
  (W8_arr m ρ c 2).trans (arr3_2 (V7 m ρ) c)
theorem result_eq : W9 m ρ c (Proc.devRef .tc main_v21) = (shapeCast S2x2048x2048 (W8 m ρ c (Proc.devRef .tc main_v20)) shapeCasts_S4096x2048_S2x2048x2048 : FVec Ideal S2x2048x2048 .f32) := by
  unfold_abbrev_sides
  after_results
  rfl

end Cert.KernelIdeal.Gen

end

end
-- ==== Proof.RefRead.lean ====
/- The reference's gathers, sort and top-k, one row at a time. -/
module

public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Gen Idealize.ShloMosaic

/-- The entry a row's index names. -/
theorem gather_row {α : Type} (x : S2x16x2048.Idx → α) (idx : IVec S2x16x1x1 32) (b : Fin 2) (h : Fin 16) :
    Host.gather gather_S2x16x2048_S2x16x1x1_S2x16x1_n_2_01_01_2_3_111 x idx (ix3 b h 0)
      = x (ix3 b h ⟨min (idx (ix4 b h 0 0)).toInt.toNat 2047, by omega⟩) := by
  unfold Host.gather
  refine congrArg x (funext fun a => Fin.ext ?_)
  match a with
  | ⟨0, _⟩ => show 0 + b.val + 0 = b.val; omega
  | ⟨1, _⟩ => show 0 + h.val + 0 = h.val; omega
  | ⟨2, _⟩ =>
    show min (idx _).toInt.toNat _ = min (idx (ix4 b h 0 0)).toInt.toNat 2047
    congr 3
    congr 1
    funext c
    match c with
    | ⟨0, _⟩ => rfl
    | ⟨1, _⟩ => rfl
    | ⟨2, _⟩ => rfl
    | ⟨3, _⟩ => rfl
/-- The row of keys or values an index names. -/
theorem gather_rows {α : Type} (x : S2x16x2048x128.Idx → α) (idx : IVec S2x16x128x128x1 32) (b : Fin 2) (h : Fin 16) (r : Fin 128) (d : Fin 128) :
    Host.gather gather_S2x16x2048x128_S2x16x128x128x1_S2x16x128x128_n_2_013_013_2_4_1111 x idx (ix4 b h r d)
      = x (ix4 b h ⟨min (idx (ix5 b h r d 0)).toInt.toNat 2047, by omega⟩ d) := by
  unfold Host.gather
  refine congrArg x (funext fun a => Fin.ext ?_)
  match a with
  | ⟨0, _⟩ => show 0 + b.val + 0 = b.val; omega
  | ⟨1, _⟩ => show 0 + h.val + 0 = h.val; omega
  | ⟨2, _⟩ =>
    show min (idx _).toInt.toNat _ = min (idx (ix5 b h r d 0)).toInt.toNat 2047
    congr 3
    congr 1
    funext c
    match c with
    | ⟨0, _⟩ => rfl
    | ⟨1, _⟩ => rfl
    | ⟨2, _⟩ => rfl
    | ⟨3, _⟩ => rfl
    | ⟨4, _⟩ => rfl
  | ⟨3, _⟩ => show 0 + d.val + 0 = d.val; omega

/-- Row positions. -/
theorem along_row (b : Fin 2) (h : Fin 16) (t k : Fin 2048) :
    Shape.Idx.along (s := S2x16x2048) (ix3 b h t) 2 k = ix3 b h k := by
  funext a
  match a with
  | ⟨0, _⟩ => rfl
  | ⟨1, _⟩ => rfl
  | ⟨2, _⟩ => rfl

/-- A sort along the last axis sorts each row. -/
theorem sort_row (cmp : EReal → EReal → BitVec 1) (x : FVec Ideal S2x16x2048 .f32) (b : Fin 2) (h : Fin 16) (t : Fin 2048) :
    Host.sort S2x16x2048 2 cmp x (ix3 b h t)
      = x (ix3 b h (sortedFrom (fun i j => cmp (x (ix3 b h i)) (x (ix3 b h j)) == 1#1) t)) := by
  refine (show Host.sort S2x16x2048 2 cmp x (ix3 b h t)
    = x (Shape.Idx.along (s := S2x16x2048) (ix3 b h t) 2 (sortedFrom (fun i j : Fin 2048 =>
      cmp (x (Shape.Idx.along (s := S2x16x2048) (ix3 b h t) 2 i)) (x (Shape.Idx.along (s := S2x16x2048) (ix3 b h t) 2 j)) == 1#1) t)) from rfl).trans ?_
  refine (congrArg x (along_row b h t _)).trans ?_
  have : (fun i j : Fin 2048 => cmp (x (Shape.Idx.along (s := S2x16x2048) (ix3 b h t) 2 i)) (x (Shape.Idx.along (s := S2x16x2048) (ix3 b h t) 2 j)) == 1#1)
      = fun i j => cmp (x (ix3 b h i)) (x (ix3 b h j)) == 1#1 := by
    funext i j
    exact congrArg₂ (fun p q => cmp (x p) (x q) == 1#1) (along_row b h t i) (along_row b h t j)
  exact congrArg (fun σ : Fin 2048 → Fin 2048 → Bool => x (ix3 b h (sortedFrom σ t))) this

/-- The indices of the greatest entries of a row. -/
theorem topK_row (cmp : EReal → EReal → BitVec 1) (x : FVec Ideal S2x16x2048 .f32) (b : Fin 2) (h : Fin 16) (r : Fin 128) :
    (Host.topK S2x16x128 2 cmp x sliceFits_S2x16x2048_S2x16x128).2 (ix3 b h r)
      = BitVec.ofNat 32 (sortedFrom (fun i j : Fin 2048 => cmp (x (ix3 b h i)) (x (ix3 b h j)) == 1#1) (Fin.castLE (by omega) r)).val := by
  have hj : (fun a => ⟨0 + (ix3 b h r (a.cast (sliceFits_S2x16x2048_S2x16x128).1.symm)).val,
      Nat.lt_of_lt_of_le (Nat.add_lt_add_left (ix3 b h r (a.cast (sliceFits_S2x16x2048_S2x16x128).1.symm)).isLt _) ((sliceFits_S2x16x2048_S2x16x128).2 a)⟩ : S2x16x2048.Idx)
      = ix3 b h (Fin.castLE (by omega : 128 ≤ 2048) r) := by
    funext a
    match a with
    | ⟨0, _⟩ => exact Fin.ext (Nat.zero_add _)
    | ⟨1, _⟩ => exact Fin.ext (Nat.zero_add _)
    | ⟨2, _⟩ => exact Fin.ext (Nat.zero_add _)
  refine (congrArg (Host.sort2 S2x16x2048 2 (fun l r => cmp l.1 r.1) x (fun i => if hd : 2 < 3 then iotaInDim S2x16x2048 32 ⟨2, hd⟩ i else 0#32)).2 hj).trans ?_
  have : (fun i j : Fin 2048 => cmp (x (Shape.Idx.along (s := S2x16x2048) (ix3 b h (Fin.castLE (by omega : 128 ≤ 2048) r)) 2 i)) (x (Shape.Idx.along (s := S2x16x2048) (ix3 b h (Fin.castLE (by omega : 128 ≤ 2048) r)) 2 j)) == 1#1)
      = fun i j => cmp (x (ix3 b h i)) (x (ix3 b h j)) == 1#1 := by
    funext i j
    exact congrArg₂ (fun p q => cmp (x p) (x q) == 1#1) (along_row b h _ i) (along_row b h _ j)
  refine (show _ = iotaInDim S2x16x2048 32 2 (Shape.Idx.along (s := S2x16x2048) (ix3 b h (Fin.castLE (by omega : 128 ≤ 2048) r)) 2 (sortedFrom (fun i j : Fin 2048 =>
      cmp (x (Shape.Idx.along (s := S2x16x2048) (ix3 b h (Fin.castLE (by omega : 128 ≤ 2048) r)) 2 i)) (x (Shape.Idx.along (s := S2x16x2048) (ix3 b h (Fin.castLE (by omega : 128 ≤ 2048) r)) 2 j)) == 1#1) (Fin.castLE (by omega : 128 ≤ 2048) r))) from ?_).trans ?_
  · unfold Host.sort2
    rw [dif_pos (show 2 < S2x16x2048.rank by decide)]
    dsimp only
    rw [dif_pos (show 2 < 3 by decide)]
    exact congrArg (iotaInDim S2x16x2048 32 2) rfl
  refine (congrArg (iotaInDim S2x16x2048 32 2) (along_row b h _ _)).trans ?_
  exact congrArg (fun σ : Fin 2048 → Fin 2048 → Bool => BitVec.ofNat 32 (sortedFrom σ (Fin.castLE (by omega : 128 ≤ 2048) r)).val) this

end Cert.ReferenceIdeal.Read

end

end
-- ==== Proof.Cumsum.lean ====
/- A running sum along the last axis of a rank-three array. -/
module

public import Idealize.ShloMosaic.Lib.Pointwise
public import Idealize.ShloMosaic.Lib.ValueIdx

@[expose] public section

set_option maxRecDepth 16384

noncomputable section

namespace Cert.Cumsum

open Idealize.ShloMosaic

theorem foldl_add {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, List.sum_ofFn.symm.trans (congrArg List.sum (List.ofFn_eq_map))]

/-- Indices of a one by one by `n` array are the last coordinates. -/
def lastAxis (n : ℕ) : Fin n ≃ (⟨3, ![1, 1, n]⟩ : Shape).Idx where
  toFun w := ix3 0 0 w
  invFun p := p 2
  left_inv w := rfl
  right_inv p := by
    funext a
    match a with
    | ⟨0, _⟩ => exact Subsingleton.elim (α := Fin 1) _ _
    | ⟨1, _⟩ => exact Subsingleton.elim (α := Fin 1) _ _
    | ⟨2, _⟩ => rfl

/-- A window of the first entries up to `j`, listed from the far end. -/
theorem sum_window (f : Fin 2048 → EReal) (j : Fin 2048) :
    (∑ w : Fin 2048, if h : 2047 ≤ j.val + w.val ∧ j.val + w.val - 2047 < 2048 then f ⟨j.val + w.val - 2047, h.2⟩ else 0)
      = ∑ i : Fin 2048, if i ≤ j then f i else 0 := by
  have hl : ∀ w : Fin 2048, (if h : 2047 ≤ j.val + w.val ∧ j.val + w.val - 2047 < 2048 then f ⟨j.val + w.val - 2047, h.2⟩ else 0)
      = if 2047 ≤ j.val + w.val then f ⟨j.val + w.val - 2047, by omega⟩ else 0 := by
    intro w
    by_cases h : 2047 ≤ j.val + w.val
    · rw [dif_pos ⟨h, by omega⟩, if_pos h]
    · rw [dif_neg (fun q => h q.1), if_neg h]
  rw [Finset.sum_congr rfl fun w _ => hl w, ← Finset.sum_filter, ← Finset.sum_filter]
  refine Finset.sum_bij' (fun w _ => ⟨j.val + w.val - 2047, by omega⟩) (fun i _ => ⟨(2047 + i.val - j.val) % 2048, by omega⟩) ?_ ?_ ?_ ?_ ?_
  · intro w hw
    simp only [Finset.mem_filter, Finset.mem_univ, true_and, Fin.le_def] at hw ⊢
    omega
  · intro i hi
    simp only [Finset.mem_filter, Finset.mem_univ, true_and, Fin.le_def] at hi ⊢
    omega
  · intro w hw
    simp only [Finset.mem_filter, Finset.mem_univ, true_and] at hw
    apply Fin.ext
    dsimp only
    omega
  · intro i hi
    simp only [Finset.mem_filter, Finset.mem_univ, true_and, Fin.le_def] at hi
    apply Fin.ext
    dsimp only
    omega
  · intro w _
    rfl

theorem reduceWindowAdd_apply {n0 n1 : ℕ} (x : FVec Ideal ⟨3, ![n0, n1, 2048]⟩ .f32) (init : FVec Ideal ⟨0, ![]⟩ .f32)
    (hinit : ∀ i, init i = 0)
    (h : (⟨3, ![n0, n1, 2048]⟩ : Shape).ReduceWindows (![1, 1, 2048] : Fin 3 → Nat) ![1, 1, 1] ![0, 0, 2047] ![0, 0, 0] ⟨3, ![n0, n1, 2048]⟩)
    (hu : 0 < (⟨0, ![]⟩ : Shape).numel) (a : Fin n0) (b : Fin n1) (j : Fin 2048) :
    Host.reduceWindowAdd (F := Ideal) (φ := .f32) ![1, 1, 2048] ![1, 1, 1] ![0, 0, 2047] ![0, 0, 0] x init h hu (ix3 a b j)
      = ∑ i : Fin 2048, if i ≤ j then x (ix3 a b i) else 0 := by
  unfold Host.reduceWindowAdd
  rw [hinit]
  refine Eq.trans (show _ = Ideal.hostReduceWindowAdd ![1, 1, 2048] ![1, 1, 1] ![0, 0, 2047] ![0, 0, 0] h x 0 (ix3 a b j) from rfl) ?_
  unfold Ideal.hostReduceWindowAdd Host.reduceWindow
  dsimp only
  rw [foldl_add, zero_add, ← sum_window (fun i => x (ix3 a b i)) j,
    ← Equiv.sum_comp ((lastAxis 2048).trans (Shape.rowMajor ⟨3, ![1, 1, 2048]⟩))]
  refine Finset.sum_congr rfl fun w _ => ?_
  have hq : ∀ c, (((⟨3, ![1, 1, 2048]⟩ : Shape).rowMajor.symm (((lastAxis 2048).trans (Shape.rowMajor ⟨3, ![1, 1, 2048]⟩)) w)) c).val
      = (lastAxis 2048 w c).val := fun c => by
    rw [Equiv.trans_apply, Equiv.symm_apply_apply]
  have ha := a.isLt
  have hb := b.isLt
  by_cases hw : 2047 ≤ j.val + w.val ∧ j.val + w.val - 2047 < 2048
  · rw [dif_pos hw, dif_pos]
    · refine congrArg x (funext fun c => Fin.ext ?_)
      match c with
      | ⟨0, _⟩ => exact (show _ = a.val * 1 + 0 - 0 from congrArg (fun z => a.val * 1 + z - 0) (hq 0)).trans (by show _ = a.val; omega)
      | ⟨1, _⟩ => exact (show _ = b.val * 1 + 0 - 0 from congrArg (fun z => b.val * 1 + z - 0) (hq 1)).trans (by show _ = b.val; omega)
      | ⟨2, _⟩ => exact (show _ = j.val * 1 + w.val - 2047 from congrArg (fun z => j.val * 1 + z - 2047) (hq 2)).trans (by show _ = j.val + w.val - 2047; omega)
    · intro c
      match c with
      | ⟨0, hc⟩ =>
        refine (show (0 ≤ a.val * 1 + _ ∧ a.val * 1 + _ - 0 < n0) from ?_)
        rw [hq ⟨0, hc⟩]
        show 0 ≤ a.val * 1 + 0 ∧ a.val * 1 + 0 - 0 < n0
        omega
      | ⟨1, hc⟩ =>
        refine (show (0 ≤ b.val * 1 + _ ∧ b.val * 1 + _ - 0 < n1) from ?_)
        rw [hq ⟨1, hc⟩]
        show 0 ≤ b.val * 1 + 0 ∧ b.val * 1 + 0 - 0 < n1
        omega
      | ⟨2, hc⟩ =>
        refine (show (2047 ≤ j.val * 1 + _ ∧ j.val * 1 + _ - 2047 < 2048) from ?_)
        rw [hq ⟨2, hc⟩]
        show 2047 ≤ j.val * 1 + w.val ∧ j.val * 1 + w.val - 2047 < 2048
        omega
  · rw [dif_neg hw, dif_neg]
    intro hin
    apply hw
    have h2 := hin 2
    have h2' : 2047 ≤ j.val * 1 + (((⟨3, ![1, 1, 2048]⟩ : Shape).rowMajor.symm (((lastAxis 2048).trans (Shape.rowMajor ⟨3, ![1, 1, 2048]⟩)) w)) 2).val
      ∧ j.val * 1 + (((⟨3, ![1, 1, 2048]⟩ : Shape).rowMajor.symm (((lastAxis 2048).trans (Shape.rowMajor ⟨3, ![1, 1, 2048]⟩)) w)) 2).val - 2047 < 2048 := h2
    rw [hq 2] at h2'
    have h3 : 2047 ≤ j.val * 1 + w.val ∧ j.val * 1 + w.val - 2047 < 2048 := h2'
    omega

end Cert.Cumsum

end

end
-- ==== Proof.Tau.lean ====
/- The threshold read off the descending prefix sums leaves the wanted mass. -/
module

public import proofs.«01_k».proof.Proof.Order

@[expose] public section

noncomputable section

namespace Cert.Select

open Classical

variable {n : ℕ}

/-- Sum of the first entries, up to `j`. -/
def prefixSum (u : Fin n → ℝ) (j : Fin n) : ℝ := ∑ i, if i ≤ j then u i else 0

/-- The positions the support test accepts. -/
def Supp (u : Fin n → ℝ) (K : ℝ) (j : Fin n) : Prop := (prefixSum u j - K) / (1 + j.val) < u j

/-- How many positions it accepts. -/
def rho (u : Fin n → ℝ) (K : ℝ) : ℕ := (Finset.univ.filter fun j => Supp u K j).card

theorem prefix_mass (u : Fin n → ℝ) (hu : Antitone u) (j : Fin n) : mass u (u j) = prefixSum u j - (1 + j.val) * u j := by
  have h : ∀ i, max (u i - u j) 0 = (if i ≤ j then u i else 0) - if i ≤ j then u j else 0 := by
    intro i
    by_cases hij : i ≤ j
    · rw [if_pos hij, if_pos hij, max_eq_left (sub_nonneg.mpr (hu hij))]
    · rw [if_neg hij, if_neg hij, max_eq_right (sub_nonpos.mpr (hu (not_le.mp hij).le)), sub_zero]
  unfold mass prefixSum
  rw [Finset.sum_congr rfl fun i _ => h i, Finset.sum_sub_distrib]
  congr 1
  rw [← Finset.sum_filter, Finset.sum_const, nsmul_eq_mul]
  have : (Finset.univ.filter fun i => i ≤ j) = Finset.Iic j := by ext; simp
  rw [this, Fin.card_Iic]
  push_cast
  ring

theorem supp_iff (u : Fin n → ℝ) (hu : Antitone u) (K : ℝ) (j : Fin n) : Supp u K j ↔ mass u (u j) < K := by
  have hp : (0 : ℝ) < 1 + j.val := by positivity
  unfold Supp
  rw [prefix_mass u hu, div_lt_iff₀ hp]
  constructor <;> intro h <;> linarith

theorem supp_down (u : Fin n → ℝ) (hu : Antitone u) (K : ℝ) {i j : Fin n} (hij : i ≤ j) (h : Supp u K j) : Supp u K i := by
  rw [supp_iff u hu] at *
  exact (mass_anti u (hu hij)).trans_lt h

/-- The accepted positions are the first `rho` ones. -/
theorem supp_iff_lt (u : Fin n → ℝ) (hu : Antitone u) (K : ℝ) (j : Fin n) : Supp u K j ↔ j.val < rho u K := by
  constructor
  · intro h
    have : Finset.Iic j ⊆ Finset.univ.filter fun j => Supp u K j := by
      intro i hi
      simp only [Finset.mem_filter, Finset.mem_univ, true_and]
      exact supp_down u hu K (Finset.mem_Iic.mp hi) h
    have := Finset.card_le_card this
    rw [Fin.card_Iic] at this
    exact this
  · intro h
    by_contra hj
    have : (Finset.univ.filter fun j => Supp u K j) ⊆ Finset.Iio j := by
      intro i hi
      simp only [Finset.mem_filter, Finset.mem_univ, true_and] at hi
      rw [Finset.mem_Iio]
      by_contra hij
      exact hj (supp_down u hu K (not_lt.mp hij) hi)
    have := Finset.card_le_card this
    rw [Fin.card_Iio] at this
    exact absurd h (not_lt.mpr this)

theorem rho_le (u : Fin n → ℝ) (K : ℝ) : rho u K ≤ n := by
  unfold rho
  exact (Finset.card_le_univ _).trans_eq (Fintype.card_fin n)

theorem rho_pos (u : Fin n → ℝ) (hu : Antitone u) (K : ℝ) (hK : 0 < K) (hn : 0 < n) : 0 < rho u K := by
  refine (supp_iff_lt u hu K ⟨0, hn⟩).mp ?_
  rw [supp_iff u hu, mass_top u _ fun i => hu (Fin.mk_le_of_le_val (Nat.zero_le _))]
  exact hK

theorem prefixSum_succ (u : Fin n → ℝ) (i j : Fin n) (h : j.val = i.val + 1) : prefixSum u j = prefixSum u i + u j := by
  have e : ∀ k, (if k ≤ j then u k else 0) = (if k ≤ i then u k else 0) + if k = j then u k else 0 := by
    intro k
    rcases lt_trichotomy k j with hk | hk | hk
    · have : k ≤ i := by rw [Fin.le_def]; rw [Fin.lt_def] at hk; omega
      rw [if_pos hk.le, if_pos this, if_neg hk.ne, add_zero]
    · subst hk
      have : ¬ k ≤ i := by rw [Fin.le_def]; omega
      rw [if_pos (le_refl _), if_neg this, if_pos rfl, zero_add]
    · have : ¬ k ≤ i := by rw [Fin.le_def]; rw [Fin.lt_def] at hk; omega
      rw [if_neg (not_le.mpr hk), if_neg this, if_neg hk.ne', add_zero]
  unfold prefixSum
  rw [Finset.sum_congr rfl fun k _ => e k, Finset.sum_add_distrib, Finset.sum_ite_eq' Finset.univ j u, if_pos (Finset.mem_univ _)]

theorem mass_rho (u : Fin n → ℝ) (hu : Antitone u) (K : ℝ) (r : Fin n) (hr : r.val + 1 = rho u K) :
    mass u ((prefixSum u r - K) / (rho u K)) = K := by
  have hp : (0 : ℝ) < 1 + r.val := by positivity
  have hc : ((rho u K : ℕ) : ℝ) = 1 + r.val := by rw [← hr]; push_cast; ring
  rw [hc]
  have hin : Supp u K r := (supp_iff_lt u hu K r).mpr (by omega)
  set t := (prefixSum u r - K) / (1 + r.val) with ht
  have htm : t * (1 + r.val) = prefixSum u r - K := div_mul_cancel₀ _ hp.ne'
  have hlo : ∀ i, i ≤ r → t ≤ u i := fun i hi => le_of_lt (lt_of_lt_of_le hin (hu hi))
  have hhi : ∀ i, ¬ i ≤ r → u i ≤ t := by
    intro i hi
    have hi' : r.val < i.val := by rw [Fin.le_def] at hi; omega
    have hs : r.val + 1 < n := lt_of_le_of_lt hi' i.isLt
    have hout : ¬ Supp u K ⟨r.val + 1, hs⟩ := fun h => by
      have := (supp_iff_lt u hu K _).mp h
      simp only at this
      omega
    have hle : u i ≤ u ⟨r.val + 1, hs⟩ := hu (by rw [Fin.le_def]; exact hi')
    refine hle.trans ?_
    unfold Supp at hout
    rw [prefixSum_succ u r ⟨r.val + 1, hs⟩ rfl, not_lt, le_div_iff₀ (by positivity)] at hout
    rw [ht, le_div_iff₀ hp]
    push_cast at hout
    linarith
  have e : ∀ i, max (u i - t) 0 = (if i ≤ r then u i else 0) - if i ≤ r then t else 0 := by
    intro i
    by_cases hi : i ≤ r
    · rw [if_pos hi, if_pos hi, max_eq_left (sub_nonneg.mpr (hlo i hi))]
    · rw [if_neg hi, if_neg hi, max_eq_right (sub_nonpos.mpr (hhi i hi)), sub_zero]
  unfold mass
  rw [Finset.sum_congr rfl fun i _ => e i, Finset.sum_sub_distrib]
  have : (∑ i : Fin n, if i ≤ r then t else 0) = t * (1 + r.val) := by
    rw [← Finset.sum_filter, Finset.sum_const, nsmul_eq_mul]
    have : (Finset.univ.filter fun i => i ≤ r) = Finset.Iic r := by ext; simp
    rw [this, Fin.card_Iic]
    push_cast
    ring
  rw [this, htm]
  unfold prefixSum
  ring

/-- The mass above a threshold does not depend on the order of the entries. -/
theorem mass_order (s : Fin n → ℝ) (t : ℝ) : mass (fun j => s (order s j)) t = mass s t :=
  Equiv.sum_comp (Equiv.ofBijective (order s) ⟨order_injective s, order_surjective s⟩) fun i => max (s i - t) 0

end Cert.Select

end

end
-- ==== Proof.RefTau.lean ====
/- The reference's threshold and the order of the entries above it, for a row of real scores. -/
module

public import proofs.«01_k».proof.Proof.RefRead
public import proofs.«01_k».proof.Proof.Cumsum
public import proofs.«01_k».proof.Proof.Tau
public import proofs.«01_k».proof.Proof.Reals
public import Idealize.ShloMosaic.Lib.IndicatorCount

@[expose] public section

set_option maxRecDepth 16384

noncomputable section

namespace Cert.ReferenceIdeal.Read

open Cert.ReferenceIdeal Cert.ReferenceIdeal.Gen Idealize.ShloMosaic Cert.Select Cert.Reals

open Classical

/-- On the extended reals the sort's comparison is the order. -/
theorem comparator_lt (l r : EReal) : comparator_f32_d2 (F := Ideal) l r = BitVec.ofBool (decide (l < r)) := by
  have hne : ∀ a : EReal, FloatOps.cmpf (F := Ideal) (φ := .f32) .une a a = 0#1 := by
    intro a
    show BitVec.ofBool (decide (a ≠ a)) = 0#1
    simp
  have hz : ∀ a : EReal, Scalar.select (FloatOps.cmpf (F := Ideal) (φ := .f32) .oeq a (FloatOps.ofBits (F := Ideal) .f32 0x00000000#32))
      (FloatOps.ofBits (F := Ideal) .f32 0x00000000#32) a = a := by
    intro a
    show Scalar.select (BitVec.ofBool (decide (a = Ideal.ofBits .f32 0x00000000#32))) (Ideal.ofBits .f32 0x00000000#32) a = a
    by_cases h : a = Ideal.ofBits .f32 0x00000000#32
    · rw [← h]; unfold Scalar.select; split <;> rfl
    · rw [decide_eq_false h]; rfl
  unfold comparator_f32_d2
  dsimp only
  rw [hne, hne, hz, hz]
  rfl

variable (x0 : FVec Ideal S2x2048x2048 .f32) (x2 : FVec Ideal S2048x2048 .f32)
    (x5 : FVec Ideal S128x128 .f32) (x6 : FVec Ideal S128 .f32) (x7 : FVec Ideal S1x128 .f32) (x8 : FVec Ideal S1 .f32)
    (b : Fin 2) (h : Fin 16) (w : Fin 2048 → ℝ)
    (hs : ∀ i, val_main_v24 (F := Ideal) x0 x2 x5 x6 x7 x8 (ix3 b h i) = (w i : EReal))

/-- The scores in descending order. -/
def desc (w : Fin 2048 → ℝ) (j : Fin 2048) : ℝ := w (order w j)

theorem desc_antitone : Antitone (desc w) := order_antitone w

include hs

theorem sorted_apply (j : Fin 2048) : val_main_call0_v2 (F := Ideal) x0 x2 x5 x6 x7 x8 (ix3 b h j) = (desc w j : EReal) := by
  unfold val_main_call0_v2 val_main_call0_v1 val_main_call0_v0
  show -(Host.sort S2x16x2048 2 (comparator_f32_d2 (F := Ideal)) (Host.negf (val_main_v24 (F := Ideal) x0 x2 x5 x6 x7 x8)) (ix3 b h j)) = _
  rw [sort_row]
  have hn : ∀ i, Host.negf (F := Ideal) (φ := .f32) (val_main_v24 (F := Ideal) x0 x2 x5 x6 x7 x8) (ix3 b h i) = ((-w i : ℝ) : EReal) := by
    intro i
    show -(val_main_v24 (F := Ideal) x0 x2 x5 x6 x7 x8 (ix3 b h i)) = _
    rw [hs i, EReal.coe_neg]
  have ho : (fun i j : Fin 2048 => comparator_f32_d2 (F := Ideal) (Host.negf (val_main_v24 (F := Ideal) x0 x2 x5 x6 x7 x8) (ix3 b h i))
      (Host.negf (val_main_v24 (F := Ideal) x0 x2 x5 x6 x7 x8) (ix3 b h j)) == 1#1) = fun i j => decide (w j < w i) := by
    funext i j
    rw [hn, hn, comparator_lt]
    by_cases hlt : w j < w i
    · rw [decide_eq_true (EReal.coe_lt_coe_iff.mpr (neg_lt_neg hlt)), decide_eq_true hlt]; rfl
    · rw [decide_eq_false (fun q => hlt (neg_lt_neg_iff.mp (EReal.coe_lt_coe_iff.mp q))), decide_eq_false hlt]; rfl
  rw [ho, hn]
  show -((-w (order w j) : ℝ) : EReal) = _
  rw [EReal.coe_neg, neg_neg]
  rfl

theorem cumsum_apply (j : Fin 2048) : val_main_call0_v3 (F := Ideal) x0 x2 x5 x6 x7 x8 (ix3 b h j) = (prefixSum (desc w) j : EReal) := by
  unfold val_main_call0_v3
  refine (Cert.Cumsum.reduceWindowAdd_apply _ _ (fun i => ?_) _ _ b h j).trans ?_
  · unfold val_main_call0_call0_v0 val_main_call0_call0_cst
    show Ideal.ofBits .f32 0x00000000#32 = 0
    simp [Ideal.ofBits, Ideal.ieee]
  · unfold prefixSum
    rw [← coe_sum]
    refine Finset.sum_congr rfl fun i _ => ?_
    rw [sorted_apply x0 x2 x5 x6 x7 x8 b h w hs i]
    split <;> simp

theorem count_apply : val_main_call0_v15 (F := Ideal) x0 x2 x5 x6 x7 x8 (ix2 b h) = BitVec.ofNat 32 (rho (desc w) 128) := by
  unfold val_main_call0_v15 val_main_call0_v14 val_main_call0_v13 val_main_call0_v12 val_main_call0_v11 val_main_call0_v10 val_main_call0_v9 val_main_call0_v8 val_main_call0_v7 val_main_call0_v6 val_main_call0_v5 val_main_call0_v4 val_main_call0_c val_main_call0_cst val_main_call0_c_0
  pointwise
  rw [IndicatorCount.fold_addi_setWidth_eq_card]
  unfold rho
  congr 2
  ext j
  simp only [Finset.mem_filter, Finset.mem_univ, true_and]
  simp only [cumsum_apply x0 x2 x5 x6 x7 x8 b h w hs, sorted_apply x0 x2 x5 x6 x7 x8 b h w hs, ofBits_128]
  have hj : FloatOps.sitofp (F := Ideal) FTy.f32 (IntOp.addi (1#32) (BitVec.ofNat 32 j.val)) = ((1 + j.val : ℝ) : EReal) := by
    show (((1#32 + BitVec.ofNat 32 j.val).toInt : ℝ) : EReal) = _
    have : (1#32 + BitVec.ofNat 32 j.val).toInt = 1 + j.val := by
      have := j.isLt
      rw [BitVec.toInt_eq_toNat_of_lt] <;> simp [BitVec.toNat_add, BitVec.toNat_ofNat] <;> omega
    rw [this]
    push_cast
    rfl
  have hp : (1 + j.val : ℝ) ≠ 0 := by positivity
  rw [hj, Ideal.div_coe hp, ← EReal.coe_sub, ← EReal.coe_mul, mul_one_div]
  unfold Supp
  by_cases hq : (prefixSum (desc w) j - 128) / (1 + j.val) < desc w j
  · rw [decide_eq_true (EReal.coe_lt_coe_iff.mpr hq)]
    exact ⟨fun _ => hq, fun _ => rfl⟩
  · rw [decide_eq_false (fun q => hq (EReal.coe_lt_coe_iff.mp q))]
    exact ⟨fun q => absurd q (by decide), fun q => absurd q hq⟩

omit hs in
/-- A small natural as a word, read signed. -/
theorem toInt_ofNat (k : ℕ) (hk : k < 2 ^ 31) : (BitVec.ofNat 32 k).toInt = k := by
  rw [BitVec.toInt_eq_toNat_of_lt] <;> rw [BitVec.toNat_ofNat, Nat.mod_eq_of_lt] <;> omega

omit hs in
theorem not_slt_zero (k : ℕ) (hk : k < 2 ^ 31) : IntOp.cmpi CmpIPredicate.slt (BitVec.ofNat 32 k) 0#32 = 0#1 := by
  show BitVec.ofBool ((BitVec.ofNat 32 k).slt 0#32) = 0#1
  rw [BitVec.slt_eq_decide, toInt_ofNat k hk, BitVec.toInt_zero, decide_eq_false (by omega)]
  rfl

omit hs in
/-- An index that is not negative is taken as it stands. -/
theorem take_word (k : ℕ) (hk : k < 2048) :
    min (Scalar.select (IntOp.cmpi CmpIPredicate.slt (BitVec.ofNat 32 k) 0#32) (IntOp.addi (BitVec.ofNat 32 k) 2048#32) (BitVec.ofNat 32 k)).toInt.toNat 2047 = k := by
  rw [not_slt_zero k (by omega)]
  show min (BitVec.ofNat 32 k).toInt.toNat 2047 = k
  rw [toInt_ofNat k (by omega)]
  omega

omit hs in
theorem max_one (k : ℕ) (h0 : 0 < k) (hk : k < 2 ^ 31) : IntOp.maxsi (BitVec.ofNat 32 k) 1#32 = BitVec.ofNat 32 k := by
  unfold IntOp.maxsi
  have h1 : (1#32).toInt = 1 := by decide
  split
  · rfl
  · next hlt =>
    rw [BitVec.slt_eq_decide, toInt_ofNat k hk, h1, decide_eq_true_eq] at hlt
    have : k = 1 := by omega
    rw [this]

omit hs in
theorem sub_one (k : ℕ) (h0 : 0 < k) (hk : k < 2 ^ 31) : IntOp.subi (BitVec.ofNat 32 k) 1#32 = BitVec.ofNat 32 (k - 1) := by
  show BitVec.ofNat 32 k - 1#32 = _
  apply BitVec.eq_of_toNat_eq
  rw [BitVec.toNat_sub, BitVec.toNat_ofNat, BitVec.toNat_ofNat, BitVec.toNat_ofNat]
  omega

omit hs in
theorem rho_range : 0 < rho (desc w) 128 ∧ rho (desc w) 128 ≤ 2048 :=
  ⟨rho_pos _ (desc_antitone w) 128 (by norm_num) (by norm_num), rho_le _ _⟩

/-- The last supported position. -/
def last (w : Fin 2048 → ℝ) : Fin 2048 := ⟨rho (desc w) 128 - 1, by have := rho_range w; omega⟩

/-- The reference's threshold. -/
def thr (w : Fin 2048 → ℝ) : ℝ := (prefixSum (desc w) (last w) - 128) / rho (desc w) 128

omit hs in
/-- It leaves mass 128 above it. -/
theorem mass_thr : mass w (thr w) = 128 := by
  have h := mass_rho (desc w) (desc_antitone w) 128 (last w) (by have := rho_range w; show rho (desc w) 128 - 1 + 1 = _; omega)
  rw [← mass_order w (thr w)]
  exact h

theorem last_apply : val_main_call0_v21 (F := Ideal) x0 x2 x5 x6 x7 x8 (ix3 b h 0) = (prefixSum (desc w) (last w) : EReal) := by
  unfold val_main_call0_v21
  rw [gather_row, cumsum_apply x0 x2 x5 x6 x7 x8 b h w hs]
  refine congrArg Real.toEReal (congrArg (prefixSum (desc w)) (Fin.ext ?_))
  dsimp only
  unfold val_main_call0_call1_v5 val_main_call0_call1_v4 val_main_call0_call1_v3 val_main_call0_call1_v2 val_main_call0_call1_v1 val_main_call0_call1_v0 val_main_call0_call1_c_0 val_main_call0_call1_c val_main_call0_v20 val_main_call0_v19 val_main_call0_v18 val_main_call0_v17 val_main_call0_c_1 val_main_call0_c_2 val_main_call0_v16
  pointwise
  have hr := rho_range w
  rw [count_apply x0 x2 x5 x6 x7 x8 b h w hs, max_one _ hr.1 (by omega), sub_one _ hr.1 (by omega), take_word _ (by omega)]
  rfl

/-- What is left of an entry above the threshold. -/
def rest (w : Fin 2048 → ℝ) (i : Fin 2048) : ℝ := max (w i - thr w) 0

theorem rest_apply (i : Fin 2048) : val_main_v25 (F := Ideal) x0 x2 x5 x6 x7 x8 (ix3 b h i) = (rest w i : EReal) := by
  unfold val_main_v25 val_main_call0_v28 val_main_call0_cst_4 val_main_call0_v27 val_main_call0_v26 val_main_call0_v25 val_main_call0_v24 val_main_call0_v23 val_main_call0_v22 val_main_call0_v18 val_main_call0_v17 val_main_call0_c_1 val_main_call0_v16 val_main_call0_cst_3
  pointwise
  have hr := rho_range w
  rw [count_apply x0 x2 x5 x6 x7 x8 b h w hs, max_one _ hr.1 (by omega), last_apply x0 x2 x5 x6 x7 x8 b h w hs, ofBits_128, hs]
  have hc : FloatOps.sitofp (F := Ideal) FTy.f32 (BitVec.ofNat 32 (rho (desc w) 128)) = ((rho (desc w) 128 : ℝ) : EReal) := by
    show ((((BitVec.ofNat 32 (rho (desc w) 128)).toInt : ℤ) : ℝ) : EReal) = _
    rw [toInt_ofNat _ (by omega)]
    push_cast
    rfl
  have hp : (rho (desc w) 128 : ℝ) ≠ 0 := by exact_mod_cast hr.1.ne'
  rw [hc, Ideal.div_coe hp, ← EReal.coe_sub, ← EReal.coe_mul, ← EReal.coe_sub, coe_max_zero, mul_one_div]
  rfl

/-- The position the reference picks for slot `r`. -/
def pick (w : Fin 2048 → ℝ) (r : Fin 128) : Fin 2048 := order (rest w) (Fin.castLE (by omega) r)

theorem indices_apply (r : Fin 128) : val_main_indices (F := Ideal) x0 x2 x5 x6 x7 x8 (ix3 b h r)
    = BitVec.ofNat 32 (pick w r).val := by
  unfold val_main_indices pick order
  rw [topK_row]
  have ho : (fun i j : Fin 2048 => FloatOps.cmpfTotal (F := Ideal) (φ := .f32) .gt (val_main_v25 (F := Ideal) x0 x2 x5 x6 x7 x8 (ix3 b h i))
      (val_main_v25 (F := Ideal) x0 x2 x5 x6 x7 x8 (ix3 b h j)) == 1#1) = fun i j => decide (rest w j < rest w i) := by
    funext i j
    rw [rest_apply x0 x2 x5 x6 x7 x8 b h w hs, rest_apply x0 x2 x5 x6 x7 x8 b h w hs]
    show (BitVec.ofBool (decide ((rest w j : EReal) < (rest w i : EReal))) == 1#1) = _
    by_cases hlt : rest w j < rest w i
    · rw [decide_eq_true (EReal.coe_lt_coe_iff.mpr hlt), decide_eq_true hlt]; rfl
    · rw [decide_eq_false (fun q => hlt (EReal.coe_lt_coe_iff.mp q)), decide_eq_false hlt]; rfl
  rw [ho]

theorem keys_apply (r d : Fin 128) : val_main_v28 (F := Ideal) x0 x2 x5 x6 x7 x8 (ix4 b h r d)
    = val_main_v11 (F := Ideal) x0 x2 (ix4 b h (pick w r) d) := by
  unfold val_main_v28
  rw [gather_rows]
  refine congrArg (val_main_v11 (F := Ideal) x0 x2) (congrArg (fun t => ix4 b h t d) (Fin.ext ?_))
  dsimp only
  unfold val_main_call1_v5 val_main_call1_v4 val_main_call1_v3 val_main_call1_v2 val_main_call1_v1 val_main_call1_v0 val_main_call1_c val_main_call1_c_0 val_main_v27 val_main_v26
  pointwise
  rw [indices_apply x0 x2 x5 x6 x7 x8 b h w hs]
  exact take_word _ (pick w r).isLt

theorem values_apply (x3 : FVec Ideal S2048x2048 .f32) (r d : Fin 128) : val_main_v29 (F := Ideal) x0 x2 x3 x5 x6 x7 x8 (ix4 b h r d)
    = val_main_v7 (F := Ideal) x0 x3 (ix4 b h (pick w r) d) := by
  unfold val_main_v29
  rw [gather_rows]
  refine congrArg (val_main_v7 (F := Ideal) x0 x3) (congrArg (fun t => ix4 b h t d) (Fin.ext ?_))
  dsimp only
  unfold val_main_call2_v5 val_main_call2_v4 val_main_call2_v3 val_main_call2_v2 val_main_call2_v1 val_main_call2_v0 val_main_call2_c val_main_call2_c_0 val_main_v27 val_main_v26
  pointwise
  rw [indices_apply x0 x2 x5 x6 x7 x8 b h w hs]
  exact take_word _ (pick w r).isLt

end Cert.ReferenceIdeal.Read

end

end
-- ==== Proof.RefScore.lean ====
/- The reference's projections and scores, entry by entry. -/
module

public import proofs.«01_k».proof.Proof.Gen.ReferenceIdeal.Read
public import Idealize.ShloMosaic.Lib.Pointwise

@[expose] public section

set_option maxRecDepth 16384

noncomputable section

namespace Cert.ReferenceIdeal.Read

open Cert.ReferenceIdeal Cert.ReferenceIdeal.Gen Idealize.ShloMosaic

/-- The feature of head `h` with offset `d`. -/
def feat (h : Fin 16) (d : Fin 128) : Fin 2048 := ⟨h.val * 128 + d.val, by omega⟩

/-- A token's projection on one head's feature. -/
def proj (x : FVec Ideal S2x2048x2048 .f32) (w : FVec Ideal S2048x2048 .f32)
    (b : Fin 2) (h : Fin 16) (t : Fin 2048) (d : Fin 128) : EReal :=
  ∑ k : Fin 2048, x (ix3 b t k) * w (ix2 (feat h d) k)

/-- A token's selection score: two layers over the head's key. -/
def mlp (x : FVec Ideal S2x2048x2048 .f32) (w : FVec Ideal S2048x2048 .f32)
    (w1 : FVec Ideal S128x128 .f32) (b1 : FVec Ideal S128 .f32) (w2 : FVec Ideal S1x128 .f32) (b2 : FVec Ideal S1 .f32)
    (b : Fin 2) (h : Fin 16) (t : Fin 2048) : EReal :=
  (∑ e : Fin 128, max ((∑ f : Fin 128, proj x w b h t f * w1 (ix2 e f)) + b1 (ix1 e)) 0 * w2 (ix2 0 e)) + b2 (ix1 0)

theorem v3_apply (x : FVec Ideal S2x2048x2048 .f32) (w : FVec Ideal S2048x2048 .f32)
    (b : Fin 2) (h : Fin 16) (t : Fin 2048) (d : Fin 128) :
    val_main_v3 (F := Ideal) x w (ix4 b h t d) = proj x w b h t d := by
  unfold val_main_v3 val_main_v2 val_main_v1 val_main_v0
  pointwise
  rfl

theorem v7_apply (x : FVec Ideal S2x2048x2048 .f32) (w : FVec Ideal S2048x2048 .f32)
    (b : Fin 2) (h : Fin 16) (t : Fin 2048) (d : Fin 128) :
    val_main_v7 (F := Ideal) x w (ix4 b h t d) = proj x w b h t d := by
  unfold val_main_v7 val_main_v6 val_main_v5 val_main_v4
  pointwise
  rfl

theorem v11_apply (x : FVec Ideal S2x2048x2048 .f32) (w : FVec Ideal S2048x2048 .f32)
    (b : Fin 2) (h : Fin 16) (t : Fin 2048) (d : Fin 128) :
    val_main_v11 (F := Ideal) x w (ix4 b h t d) = proj x w b h t d := by
  unfold val_main_v11 val_main_v10 val_main_v9 val_main_v8
  pointwise
  rfl

theorem v24_apply (x : FVec Ideal S2x2048x2048 .f32) (w : FVec Ideal S2048x2048 .f32)
    (w1 : FVec Ideal S128x128 .f32) (b1 : FVec Ideal S128 .f32) (w2 : FVec Ideal S1x128 .f32) (b2 : FVec Ideal S1 .f32)
    (b : Fin 2) (h : Fin 16) (t : Fin 2048) :
    val_main_v24 (F := Ideal) x w w1 b1 w2 b2 (ix3 b h t) = mlp x w w1 b1 w2 b2 b h t := by
  unfold val_main_v24 val_main_v23 val_main_v22 val_main_v21 val_main_v20 val_main_v19 val_main_v18 val_main_v17 val_main_v16 val_main_v15 val_main_v14 val_main_v13 val_main_v12 val_main_cst
  pointwise
  simp only [v11_apply]
  rfl

end Cert.ReferenceIdeal.Read

end

end
-- ==== Proof.RefAttn.lean ====
/- The reference's attention and output projection, entry by entry. -/
module

public import proofs.«01_k».proof.Proof.RefTau
public import proofs.«01_k».proof.Proof.RefScore
public import proofs.«01_k».proof.Proof.Attend

@[expose] public section

set_option maxRecDepth 16384

noncomputable section

namespace Cert.ReferenceIdeal.Read

open Cert.ReferenceIdeal Cert.ReferenceIdeal.Gen Idealize.ShloMosaic Cert.Select Cert.Reals Cert.Attend

variable (x0 : FVec Ideal S2x2048x2048 .f32) (x1 x2 x3 x4 : FVec Ideal S2048x2048 .f32)
    (x5 : FVec Ideal S128x128 .f32) (x6 : FVec Ideal S128 .f32) (x7 : FVec Ideal S1x128 .f32) (x8 : FVec Ideal S1 .f32)

theorem root_apply (i : S2x16x2048x128.Idx) : val_main_v33 (F := Ideal) i = ((Real.sqrt 128 : ℝ) : EReal) := by
  unfold val_main_v33 val_main_v32 val_main_cst_0
  show Ideal.sqrt (Ideal.ofBits .f32 0x43000000#32) = _
  rw [ofBits_128, Ideal.sqrt_coe, if_neg (by norm_num)]

theorem v34_apply (b : Fin 2) (h : Fin 16) (t : Fin 2048) (r : Fin 128) :
    val_main_v34 (F := Ideal) x0 x1 x2 x5 x6 x7 x8 (ix4 b h t r)
      = (∑ e, val_main_v3 (F := Ideal) x0 x1 (ix4 b h t e) * val_main_v28 (F := Ideal) x0 x2 x5 x6 x7 x8 (ix4 b h r e))
        * (((Real.sqrt 128)⁻¹ : ℝ) : EReal) := by
  unfold val_main_v34 val_main_v31 val_main_v30
  pointwise
  rw [root_apply, Ideal.div_coe (Real.sqrt_ne_zero'.mpr (by norm_num)), one_div]

theorem v35_apply (b : Fin 2) (h : Fin 16) (t : Fin 2048) :
    val_main_v35 (F := Ideal) x0 x1 x2 x5 x6 x7 x8 (ix3 b h t)
      = peak fun r => val_main_v34 (F := Ideal) x0 x1 x2 x5 x6 x7 x8 (ix4 b h t r) := by
  unfold val_main_v35 val_main_cst_1
  generalize val_main_v34 (F := Ideal) x0 x1 x2 x5 x6 x7 x8 = y
  pointwise
  unfold peak least
  rfl

theorem v36_apply (i : S2x16x2048.Idx) : val_main_v36 (F := Ideal) i = least := rfl

theorem max_at (z y : FVec Ideal S2x16x2048 .f32) (i : S2x16x2048.Idx) : maximumf z y i = max (z i) (y i) := rfl

theorem v37_apply (b : Fin 2) (h : Fin 16) (t : Fin 2048) :
    val_main_v37 (F := Ideal) x0 x1 x2 x5 x6 x7 x8 (ix3 b h t)
      = peak fun r => val_main_v34 (F := Ideal) x0 x1 x2 x5 x6 x7 x8 (ix4 b h t r) := by
  have h35 := v35_apply x0 x1 x2 x5 x6 x7 x8 b h t
  have h36 := v36_apply (ix3 b h t)
  unfold val_main_v37
  generalize val_main_v34 (F := Ideal) x0 x1 x2 x5 x6 x7 x8 = l at h35 ⊢
  generalize val_main_v35 (F := Ideal) x0 x1 x2 x5 x6 x7 x8 = y at h35 ⊢
  generalize val_main_v36 (F := Ideal) = z at h36 ⊢
  refine (max_at z y (ix3 b h t)).trans ?_
  rw [h35, h36, max_peak]

theorem v39_apply (b : Fin 2) (h : Fin 16) (t : Fin 2048) (r : Fin 128) :
    val_main_v39 (F := Ideal) x0 x1 x2 x5 x6 x7 x8 (ix4 b h t r)
      = peak fun r => val_main_v34 (F := Ideal) x0 x1 x2 x5 x6 x7 x8 (ix4 b h t r) := by
  rw [← v37_apply]
  unfold val_main_v39 val_main_v38
  generalize val_main_v37 (F := Ideal) x0 x1 x2 x5 x6 x7 x8 = y
  pointwise

theorem v41_apply (b : Fin 2) (h : Fin 16) (t : Fin 2048) (r : Fin 128) :
    val_main_v41 (F := Ideal) x0 x1 x2 x5 x6 x7 x8 (ix4 b h t r)
      = Ideal.exp (val_main_v34 (F := Ideal) x0 x1 x2 x5 x6 x7 x8 (ix4 b h t r)
        - peak fun r => val_main_v34 (F := Ideal) x0 x1 x2 x5 x6 x7 x8 (ix4 b h t r)) := by
  rw [← v39_apply x0 x1 x2 x5 x6 x7 x8 b h t r]
  rfl

theorem v44_apply (b : Fin 2) (h : Fin 16) (t : Fin 2048) (r : Fin 128) :
    val_main_v44 (F := Ideal) x0 x1 x2 x5 x6 x7 x8 (ix4 b h t r)
      = ∑ r, val_main_v41 (F := Ideal) x0 x1 x2 x5 x6 x7 x8 (ix4 b h t r) := by
  unfold val_main_v44 val_main_v43 val_main_v42 val_main_cst_3
  generalize val_main_v41 (F := Ideal) x0 x1 x2 x5 x6 x7 x8 = y
  pointwise

theorem v46_apply (b : Fin 2) (h : Fin 16) (t : Fin 2048) (d : Fin 128) :
    val_main_v46 (F := Ideal) x0 x1 x2 x3 x5 x6 x7 x8 (ix4 b h t d)
      = attend (fun r => val_main_v34 (F := Ideal) x0 x1 x2 x5 x6 x7 x8 (ix4 b h t r))
          (fun r => val_main_v29 (F := Ideal) x0 x2 x3 x5 x6 x7 x8 (ix4 b h r d)) := by
  unfold val_main_v46 val_main_v45
  have h44 := v44_apply x0 x1 x2 x5 x6 x7 x8 b h t
  have h41 := v41_apply x0 x1 x2 x5 x6 x7 x8 b h t
  generalize val_main_v44 (F := Ideal) x0 x1 x2 x5 x6 x7 x8 = y44 at h44 ⊢
  generalize val_main_v41 (F := Ideal) x0 x1 x2 x5 x6 x7 x8 = y41 at h41 h44 ⊢
  generalize val_main_v34 (F := Ideal) x0 x1 x2 x5 x6 x7 x8 = y34 at h41 ⊢
  generalize val_main_v29 (F := Ideal) x0 x2 x3 x5 x6 x7 x8 = y29
  pointwise
  simp only [h44, h41]
  rfl

theorem v50_apply (b : Fin 2) (t : Fin 2048) (o : Fin 2048) :
    val_main_v50 (F := Ideal) x0 x1 x2 x3 x4 x5 x6 x7 x8 (ix3 b t o)
      = ∑ c : Fin 2048, val_main_v46 (F := Ideal) x0 x1 x2 x3 x5 x6 x7 x8 (ix4 b ⟨c.val / 128, by omega⟩ t ⟨c.val % 128, by omega⟩) * x4 (ix2 o c) := by
  unfold val_main_v50 val_main_v49 val_main_v48 val_main_v47
  generalize val_main_v46 (F := Ideal) x0 x1 x2 x3 x5 x6 x7 x8 = y
  pointwise

/-- One head's attention of the reference over a row of real scores. -/
theorem attn_apply (b : Fin 2) (h : Fin 16) (w : Fin 2048 → ℝ)
    (hs : ∀ i, val_main_v24 (F := Ideal) x0 x2 x5 x6 x7 x8 (ix3 b h i) = (w i : EReal)) (t : Fin 2048) (d : Fin 128) :
    val_main_v46 (F := Ideal) x0 x1 x2 x3 x5 x6 x7 x8 (ix4 b h t d)
      = attend ((fun x => (∑ e, proj x0 x1 b h t e * proj x0 x2 b h x e) * (((Real.sqrt 128)⁻¹ : ℝ) : EReal)) ∘ pick w)
          ((fun x => proj x0 x3 b h x d) ∘ pick w) := by
  rw [v46_apply]
  refine congrArg₂ attend (funext fun r => ?_) (funext fun r => ?_)
  · rw [v34_apply]
    refine congrArg (· * _) (Finset.sum_congr rfl fun e _ => ?_)
    rw [v3_apply, keys_apply x0 x2 x5 x6 x7 x8 b h w hs, v11_apply]
  · rw [values_apply x0 x2 x5 x6 x7 x8 b h w hs, v7_apply]
    rfl

end Cert.ReferenceIdeal.Read

end

end
-- ==== Proof.Join.lean ====
/- The kernel's arrays against the reference's: the heads and the result, entry by entry. -/
module

public import proofs.«01_k».proof.Proof.KPick
public import proofs.«01_k».proof.Proof.KVals
public import proofs.«01_k».proof.Proof.RefAttn

@[expose] public section

set_option maxRecDepth 16384

noncomputable section

namespace Cert.Join

open Idealize.ShloMosaic Cert.Select Cert.Attend
open Cert.KernelIdeal.Gen Cert.ReferenceIdeal.Read

variable (x0 : FVec Ideal Cert.KernelIdeal.S2x2048x2048 .f32) (x1 x2 x3 x4 : FVec Ideal Cert.KernelIdeal.S2048x2048 .f32)
    (x5 : FVec Ideal Cert.KernelIdeal.S128x128 .f32) (x6 : FVec Ideal Cert.KernelIdeal.S128 .f32)
    (x7 : FVec Ideal Cert.KernelIdeal.S1x128 .f32) (x8 : FVec Ideal Cert.KernelIdeal.S1 .f32)

/-- The row of a batch's token. -/
def rowOf (b : Fin 2) (t : Fin 2048) : Fin 4096 := ⟨2048 * b.val + t.val, by omega⟩

/-- The batches' tokens as rows of one matrix. -/
def tokens : FVec Ideal Cert.KernelIdeal.S4096x2048 .f32 :=
  shapeCast Cert.KernelIdeal.S4096x2048 x0 Cert.KernelIdeal.Gen.facts.shapeCasts_S2x2048x2048_S4096x2048

theorem tokens_apply (b : Fin 2) (t k : Fin 2048) : tokens x0 (ix2 (rowOf b t) k) = x0 (ix3 b t k) := by
  unfold tokens
  pointwise
  refine congrArg₂ (fun r s => x0 (ix3 r s k)) (Fin.ext ?_) (Fin.ext ?_)
  · show (2048 * b.val + t.val) / 2048 = b.val
    omega
  · show (2048 * b.val + t.val) % 2048 = t.val
    omega

/-- A row of the projected matrix is a token's projection. -/
theorem rows_proj (x : FVec Ideal Cert.KernelIdeal.S4096x2048 .f32) (hx : ∀ b t k, x (ix2 (rowOf b t) k) = x0 (ix3 b t k))
    (w : FVec Ideal Cert.KernelIdeal.S2048x2048 .f32) (b : Fin 2) (h : Fin 16) (t : Fin 2048) (d : Fin 128) :
    rowsDot x w (ix2 (rowOf b t) (feat h d)) = proj x0 w b h t d := by
  unfold rowsDot proj
  exact Finset.sum_congr rfl fun k _ => congrArg (· * _) (hx b t k)

/-- The slots' row of a batch's head. -/
def headOf (b : Fin 2) (h : Fin 16) : Fin 32 := ⟨16 * b.val + h.val, by omega⟩

/-- The kernel's score of a token is the reference's. -/
theorem score_eq (k : FVec Ideal Cert.KernelIdeal.S4096x2048 .f32)
    (hk : ∀ b h t d, k (ix2 (rowOf b t) (feat h d)) = proj x0 x2 b h t d)
    (b1 : FVec Ideal Cert.KernelIdeal.S1x128 .f32) (hb1 : ∀ e, b1 (ix2 0 e) = x6 (ix1 e))
    (b2 : FVec Ideal Cert.KernelIdeal.S1x1 .f32) (hb2 : b2 (ix2 0 0) = x8 (ix1 0))
    (b : Fin 2) (h : Fin 16) (t : Fin 2048) :
    score k x5 b1 x7 b2 (headOf b h) t = mlp x0 x2 x5 x6 x7 x8 b h t := by
  unfold score mlp
  rw [hb2]
  refine congrArg (· + _) (Finset.sum_congr rfl fun e _ => ?_)
  rw [mul_comm, hb1]
  refine congrArg (fun z => max (z + _) 0 * _) (Finset.sum_congr rfl fun f _ => congrArg (· * _) ?_)
  rw [← hk b h t f]
  refine congrArg₂ (fun r s => k (ix2 r s)) (Fin.ext ?_) (Fin.ext ?_)
  · show 2048 * ((16 * b.val + h.val) / 16) + t.val = 2048 * b.val + t.val
    omega
  · show 128 * ((16 * b.val + h.val) % 16) + f.val = h.val * 128 + f.val
    omega

/-- One entry of the kernel's heads is the reference's. -/
theorem heads_apply (q k v : FVec Ideal Cert.KernelIdeal.S4096x2048 .f32)
    (hq : ∀ b h t d, q (ix2 (rowOf b t) (feat h d)) = proj x0 x1 b h t d)
    (hk : ∀ b h t d, k (ix2 (rowOf b t) (feat h d)) = proj x0 x2 b h t d)
    (hv : ∀ b h t d, v (ix2 (rowOf b t) (feat h d)) = proj x0 x3 b h t d)
    (sl : FVec Ideal Cert.KernelIdeal.S32x1x2048 .f32) (b : Fin 2) (h : Fin 16) (w : Fin 2048 → ℝ)
    (hs : ∀ i, Cert.ReferenceIdeal.Read.val_main_v24 (F := Ideal) x0 x2 x5 x6 x7 x8 (ix3 b h i) = ((w i : ℝ) : EReal))
    (A : Apart w (lowOf w) (topOf w) 128) (hsl : ∀ x, sl (ix3 (headOf b h) 0 x) = slotOf w x) (t : Fin 2048) (d : Fin 128) :
    headsAttend q k v sl (ix2 (rowOf b t) (feat h d))
      = Cert.ReferenceIdeal.Read.val_main_v46 (F := Ideal) x0 x1 x2 x3 x5 x6 x7 x8 (ix4 b h t d) := by
  rw [Cert.ReferenceIdeal.Read.attn_apply x0 x1 x2 x3 x5 x6 x7 x8 b h w hs t d]
  obtain ⟨σ, inj, hσ, hp⟩ := picked_slotOf w A (thr w) (mass_thr w)
  have e1 : headAt (ix2 (rowOf b t) (feat h d)) = headOf b h := Fin.ext (by
    show 16 * ((2048 * b.val + t.val) / 2048) + (h.val * 128 + d.val) / 128 = 16 * b.val + h.val
    omega)
  have e2 : ∀ e, colAt (feat h d) e = feat h e := fun e => Fin.ext (by
    show 128 * ((h.val * 128 + d.val) / 128) + e.val = h.val * 128 + e.val
    omega)
  have e3 : ∀ x, rowAt (rowOf b t) x = rowOf b x := fun x => Fin.ext (by
    show 2048 * ((2048 * b.val + t.val) / 2048) + x.val = 2048 * b.val + x.val
    omega)
  have e4 : (fun x => sl (ix3 (headOf b h) 0 x)) = slotOf w := funext hsl
  have hr : Set.range σ = Set.range (pick w) := by
    ext x
    rw [← hσ x]
    exact place_lt_iff _ 128 (by norm_num) x
  have hi : Function.Injective (pick w) := fun r r' e => by
    have := order_injective _ e
    exact Fin.castLE_injective _ this
  unfold headsAttend
  rw [e1, e4]
  have e5 : ∀ r, (∑ e, q (ix2 (rowOf b t) (colAt (feat h d) e))
        * picked (slotOf w) (fun x => k (ix2 (rowAt (rowOf b t) x) (colAt (feat h d) e))) r) * Cert.KernelIdeal.Gen.scale
      = (∑ e, proj x0 x1 b h t e * proj x0 x2 b h (σ r) e) * (((Real.sqrt 128)⁻¹ : ℝ) : EReal) := fun r => by
    rw [Cert.KernelIdeal.Gen.scale_eq]
    refine congrArg (· * _) (Finset.sum_congr rfl fun e _ => ?_)
    rw [hp, e2, e3, hq, hk]
  have e6 : ∀ r, picked (slotOf w) (fun x => v (ix2 (rowAt (rowOf b t) x) (feat h d))) r = proj x0 x3 b h (σ r) d :=
    fun r => by rw [hp, e3, hv]
  refine (congrArg₂ attend (funext e5) (funext e6)).trans ?_
  exact attend_eq σ (pick w) inj hi hr
    (fun x => (∑ e, proj x0 x1 b h t e * proj x0 x2 b h x e) * (((Real.sqrt 128)⁻¹ : ℝ) : EReal)) (fun x => proj x0 x3 b h x d)

/-- The projected heads are the reference's result. -/
theorem out_apply (y : FVec Ideal Cert.KernelIdeal.S4096x2048 .f32)
    (hy : ∀ b h t d, y (ix2 (rowOf b t) (feat h d))
      = Cert.ReferenceIdeal.Read.val_main_v46 (F := Ideal) x0 x1 x2 x3 x5 x6 x7 x8 (ix4 b h t d)) (b : Fin 2) (t o : Fin 2048) :
    rowsDot y x4 (ix2 (rowOf b t) o)
      = Cert.ReferenceIdeal.Read.val_main_v50 (F := Ideal) x0 x1 x2 x3 x4 x5 x6 x7 x8 (ix3 b t o) := by
  rw [Cert.ReferenceIdeal.Read.v50_apply]
  unfold rowsDot
  refine Finset.sum_congr rfl fun c _ => congrArg (· * _) ?_
  rw [← hy]
  refine congrArg (fun s => y (ix2 (rowOf b t) s)) (Fin.ext ?_)
  show c.val = c.val / 128 * 128 + c.val % 128
  omega

end Cert.Join

end

end
-- ==== Proof.PreRead.lean ====
/- The precondition, read entry by entry. -/
module

public import proofs.«01_k».proof.Pre_separated
public import proofs.«01_k».proof.Proof.Gen.Pre_separated
public import proofs.«01_k».proof.Proof.RefScore
public import proofs.«01_k».proof.Proof.Reals
public import proofs.«01_k».proof.Proof.Bisect

@[expose] public section

set_option maxRecDepth 16384

noncomputable section

namespace Cert.Pre_separated

open Idealize.ShloMosaic Cert.Select Cert.Reals Facts

variable [Cert.Pre_separated.Facts]

/-- A row's greatest score, as the precondition computes it. -/
def greatest (s : FVec Ideal S2x16x2048 .f32) : FVec Ideal S2x16x1 .f32 :=
  broadcastInDim S2x16x1 ![0, 1] bcast_S2x16_S2x16x1_0_1
    (Host.reduce FloatOps.maximumf s (constant S_ .f32 0xFF800000#32) reducesTo_S2x16x2048_S2x16_d2 h_S_)

/-- A row's least score, as the precondition computes it. -/
def lowest (s : FVec Ideal S2x16x2048 .f32) : FVec Ideal S2x16x1 .f32 :=
  broadcastInDim S2x16x1 ![0, 1] bcast_S2x16_S2x16x1_0_1
    (Host.reduce FloatOps.minimumf s (constant S_ .f32 0x7F800000#32) reducesTo_S2x16x2048_S2x16_d2 h_S_)

theorem greatest_apply (s : FVec Ideal S2x16x2048 .f32) (b : Fin 2) (h : Fin 16) :
    greatest s (ix3 b h 0) = Finset.fold max ⊥ (fun x => s (ix3 b h x)) Finset.univ := by
  unfold greatest
  pointwise
  rw [ofBits_bot]

theorem lowest_apply (s : FVec Ideal S2x16x2048 .f32) (b : Fin 2) (h : Fin 16) :
    lowest s (ix3 b h 0) = Finset.fold min ⊤ (fun x => s (ix3 b h x)) Finset.univ := by
  unfold lowest
  pointwise
  rw [ofBits_top]

/-- The precondition is the reading of the scores by its last operations. -/
theorem fn_eq (x0 : FVec Ideal S2x2048x2048 .f32) (x1 x2 x3 x4 : FVec Ideal S2048x2048 .f32)
    (x5 : FVec Ideal S128x128 .f32) (x6 : FVec Ideal S128 .f32) (x7 : FVec Ideal S1x128 .f32) (x8 : FVec Ideal S1 .f32) :
    fn (F := Ideal) x0 x1 x2 x3 x4 x5 x6 x7 x8
      = fn_part1 (Cert.ReferenceIdeal.Read.val_main_v24 (F := Ideal) x0 x2 x5 x6 x7 x8)
        (greatest (Cert.ReferenceIdeal.Read.val_main_v24 (F := Ideal) x0 x2 x5 x6 x7 x8))
        (lowest (Cert.ReferenceIdeal.Read.val_main_v24 (F := Ideal) x0 x2 x5 x6 x7 x8)) := rfl

theorem and_one {a b : BitVec 1} (e : IntOp.andi a b = 1#1) : a = 1#1 ∧ b = 1#1 := by
  revert a b; decide

theorem or_one {a b : BitVec 1} (e : IntOp.ori a b = 1#1) : a = 1#1 ∨ b = 1#1 := by
  revert a b; decide

theorem bool_one {p : Prop} [Decidable p] (e : BitVec.ofBool (decide p) = 1#1) : p := by
  by_contra h
  rw [decide_eq_false h] at e
  exact absurd e (by decide)

/-- One entry of the precondition: the row is bounded, two scores are equal or apart, a score's mass is away
    from 128. -/
theorem part1_apply (s : FVec Ideal S2x16x2048 .f32) (hi lo : FVec Ideal S2x16x1 .f32)
    (b : Fin 2) (h : Fin 16) (i j : Fin 2048) : fn_part1 (F := Ideal) s hi lo (ix4 b h i j) = 1#1 →
      (hi (ix3 b h 0) < ⊤ ∧ ⊥ < lo (ix3 b h 0))
      ∧ (s (ix3 b h j) - s (ix3 b h i) = 0
        ∨ (hi (ix3 b h 0) - lo (ix3 b h 0) + 1) * ((1 / 2 ^ 40 : ℝ) : EReal)
          ≤ FloatOps.absf (F := Ideal) (φ := .f32) (s (ix3 b h j) - s (ix3 b h i)))
      ∧ (hi (ix3 b h 0) - lo (ix3 b h 0) + 1) * ((1 / 2 ^ 40 : ℝ) : EReal) * ((2048 : ℝ) : EReal)
          ≤ FloatOps.absf (F := Ideal) (φ := .f32)
            ((∑ x, max (s (ix3 b h x) - s (ix3 b h i)) 0) - ((128 : ℝ) : EReal)) := by
  unfold fn_part1 fn_part2
  dsimp only
  pointwise
  intro e
  obtain ⟨e1, e2⟩ := and_one e
  obtain ⟨e3, e4⟩ := and_one e2
  obtain ⟨e5, e6⟩ := and_one e3
  have h5 := bool_one e5
  have h6 := bool_one e6
  have h4 := bool_one e4
  rw [ofBits_top] at h5
  rw [ofBits_bot] at h6
  rw [ofBits_tiny, ofBits_2048, ofBits_128] at h4
  refine ⟨⟨h5, h6⟩, ?_, h4⟩
  rcases or_one e1 with e7 | e7
  · exact Or.inl (bool_one e7)
  · have h7 := bool_one e7
    rw [ofBits_tiny] at h7
    exact Or.inr h7

theorem absf_coe (a : ℝ) : FloatOps.absf (F := Ideal) (φ := .f32) ((a : ℝ) : EReal) = ((|a| : ℝ) : EReal) := by
  show max ((a : ℝ) : EReal) (-((a : ℝ) : EReal)) = _
  rw [← EReal.coe_neg, coe_max, abs_eq_max_neg]

/-- A row of scores the precondition admits is a row of reals apart from one another. -/
theorem apart_of (x : Fin 2048 → EReal) (hi lo : EReal) (ehi : hi = Finset.fold max ⊥ x Finset.univ)
    (elo : lo = Finset.fold min ⊤ x Finset.univ) (bounded : hi < ⊤ ∧ ⊥ < lo)
    (H : ∀ i j, x j - x i = 0 ∨ (hi - lo + 1) * ((1 / 2 ^ 40 : ℝ) : EReal)
      ≤ FloatOps.absf (F := Ideal) (φ := .f32) (x j - x i))
    (M : ∀ i, (hi - lo + 1) * ((1 / 2 ^ 40 : ℝ) : EReal) * ((2048 : ℝ) : EReal)
      ≤ FloatOps.absf (F := Ideal) (φ := .f32) ((∑ j, max (x j - x i) 0) - ((128 : ℝ) : EReal))) :
    ∃ w : Fin 2048 → ℝ, (∀ i, x i = ((w i : ℝ) : EReal))
      ∧ Apart w (Finset.univ.inf' Finset.univ_nonempty w) (Finset.univ.sup' Finset.univ_nonempty w) 128 := by
  have below : ∀ i, x i ≤ hi := fun i => by
    rw [ehi]; exact (Finset.le_fold_max _).2 (Or.inr ⟨i, Finset.mem_univ i, le_rfl⟩)
  have above : ∀ i, lo ≤ x i := fun i => by
    rw [elo]; exact (Finset.fold_min_le _).2 (Or.inr ⟨i, Finset.mem_univ i, le_rfl⟩)
  have hw : ∀ i, ((x i).toReal : EReal) = x i := fun i =>
    EReal.coe_toReal (lt_of_le_of_lt (below i) bounded.1).ne (lt_of_lt_of_le bounded.2 (above i)).ne'
  generalize hwdef : (fun i => (x i).toReal) = w
  have hx : x = fun i => ((w i : ℝ) : EReal) := by
    funext i
    rw [← hwdef]
    exact (hw i).symm
  refine ⟨w, fun i => congrFun hx i, ?_⟩
  subst hx
  rw [fold_max_coe] at ehi
  rw [fold_min_coe] at elo
  subst ehi
  subst elo
  clear hwdef hw above below bounded
  have one : (1 : EReal) = ((1 : ℝ) : EReal) := rfl
  have size : ∀ lo hi : ℝ, ((hi : EReal) - (lo : EReal) + 1) * ((1 / 2 ^ 40 : ℝ) : EReal)
      = (((hi - lo + 1) / 2 ^ 40 : ℝ) : EReal) := fun lo hi => by
    rw [one, ← EReal.coe_sub, ← EReal.coe_add, ← EReal.coe_mul, mul_one_div]
  refine ⟨fun i => Finset.inf'_le _ (Finset.mem_univ i), fun i => Finset.le_sup' _ (Finset.mem_univ i),
    fun i j => ?_, fun i => ?_⟩
  · have h := H j i
    rw [size, ← EReal.coe_sub, absf_coe, EReal.coe_le_coe_iff] at h
    rcases h with h | h
    · exact Or.inl (sub_eq_zero.1 (by exact_mod_cast h))
    · exact Or.inr h
  · have h := M i
    have e : (∑ j, max ((w j : EReal) - (w i : EReal)) 0) = ((mass w (w i) : ℝ) : EReal) := by
      unfold mass
      rw [← coe_sum]
      refine Finset.sum_congr rfl fun j _ => ?_
      rw [← EReal.coe_sub, coe_max_zero]
    rw [size, e, ← EReal.coe_mul, ← EReal.coe_sub, absf_coe, EReal.coe_le_coe_iff] at h
    exact_mod_cast h

/-- What the precondition says of a head's scores: they are reals, apart from one another. -/
theorem scores_apart (x0 : FVec Ideal S2x2048x2048 .f32) (x1 x2 x3 x4 : FVec Ideal S2048x2048 .f32)
    (x5 : FVec Ideal S128x128 .f32) (x6 : FVec Ideal S128 .f32) (x7 : FVec Ideal S1x128 .f32) (x8 : FVec Ideal S1 .f32)
    (H : fn (F := Ideal) x0 x1 x2 x3 x4 x5 x6 x7 x8 = fun _ => 1#1) (b : Fin 2) (h : Fin 16) :
    ∃ w : Fin 2048 → ℝ,
      (∀ i, Cert.ReferenceIdeal.Read.val_main_v24 (F := Ideal) x0 x2 x5 x6 x7 x8 (ix3 b h i) = ((w i : ℝ) : EReal))
      ∧ Apart w (Finset.univ.inf' Finset.univ_nonempty w) (Finset.univ.sup' Finset.univ_nonempty w) 128 := by
  rw [fn_eq] at H
  generalize Cert.ReferenceIdeal.Read.val_main_v24 (F := Ideal) x0 x2 x5 x6 x7 x8 = s at H ⊢
  have h1 := fun i j => part1_apply s (greatest s) (lowest s) b h i j (congrFun H (ix4 b h i j))
  exact apart_of (fun i => s (ix3 b h i)) (greatest s (ix3 b h 0)) (lowest s (ix3 b h 0)) (greatest_apply s b h)
    (lowest_apply s b h) (h1 0 0).1 (fun i j => (h1 i j).2.1) (fun i => (h1 i 0).2.2)

end Cert.Pre_separated

end

end
-- ==== Proof.Result.lean ====
/- The kernel's result is the reference's, for inputs the precondition admits. -/
module

public import proofs.«01_k».proof.Proof.Join
public import proofs.«01_k».proof.Proof.PreRead

@[expose] public section

set_option maxRecDepth 16384

noncomputable section

namespace Cert.Join

open Idealize.ShloMosaic Idealize.ShloMosaic.TcCoe Cert.Select Cert.KernelIdeal Cert.KernelIdeal.Gen
open Cert.ReferenceIdeal.Read (feat proj mlp val_main_v24 val_main_v46 val_main_v50)

theorem split_apply (y : FVec Ideal S4096x2048 .f32) (b : Fin 2) (t o : Fin 2048) :
    shapeCast S2x2048x2048 y Cert.KernelIdeal.Gen.facts.shapeCasts_S4096x2048_S2x2048x2048 (ix3 b t o) = y (ix2 (rowOf b t) o) := by
  pointwise
  refine congrArg (fun r => y (ix2 r o)) (Fin.ext ?_)
  show b.val * 2048 + t.val = 2048 * b.val + t.val
  omega

theorem slot_apply (y : FVec Ideal S32x2048 .f32) (r : Fin 32) (x : Fin 2048) :
    shapeCast S32x1x2048 y Cert.KernelIdeal.Gen.facts.shapeCasts_S32x2048_S32x1x2048 (ix3 r 0 x) = y (ix2 r x) := by
  pointwise

theorem row_apply (y : FVec Ideal S128 .f32) (e : Fin 128) :
    shapeCast S1x128 y Cert.KernelIdeal.Gen.facts.shapeCasts_S128_S1x128 (ix2 0 e) = y (ix1 e) := by
  pointwise

theorem one_apply (y : FVec Ideal S1 .f32) :
    shapeCast S1x1 y Cert.KernelIdeal.Gen.facts.shapeCasts_S1_S1x1 (ix2 0 0) = y (ix1 0) := by
  pointwise

variable (m : (ℓ : Loc nD τ sig) → Buf (Elt Ideal) ℓ) (ρ : Dev nD → PrngReg) (c : Dev nD)
    (x0 : FVec Ideal S2x2048x2048 .f32) (x1 x2 x3 x4 : FVec Ideal S2048x2048 .f32)
    (x5 : FVec Ideal S128x128 .f32) (x6 : FVec Ideal S128 .f32) (x7 : FVec Ideal S1x128 .f32) (x8 : FVec Ideal S1 .f32)

/-- What the kernel leaves in the result's buffer, over the arguments' contents. -/
theorem result (a0 : m ((c.tc : Thread nD τ).loc main_arg0) = x0) (a1 : m ((c.tc : Thread nD τ).loc main_arg1) = x1)
    (a2 : m ((c.tc : Thread nD τ).loc main_arg2) = x2) (a3 : m ((c.tc : Thread nD τ).loc main_arg3) = x3)
    (a4 : m ((c.tc : Thread nD τ).loc main_arg4) = x4) (a5 : m ((c.tc : Thread nD τ).loc main_arg5) = x5)
    (a6 : m ((c.tc : Thread nD τ).loc main_arg6) = x6) (a7 : m ((c.tc : Thread nD τ).loc main_arg7) = x7)
    (a8 : m ((c.tc : Thread nD τ).loc main_arg8) = x8)
    (H : Cert.Pre_separated.fn (F := Ideal) x0 x1 x2 x3 x4 x5 x6 x7 x8 = fun _ => 1#1) :
    (W9 m ρ c (Proc.devRef .tc main_v21) : FVec Ideal S2x2048x2048 .f32)
      = val_main_v50 (F := Ideal) x0 x1 x2 x3 x4 x5 x6 x7 x8 := by
  have ht : ∀ b t k, (V1 m ρ c main_v0 : FVec Ideal S4096x2048 .f32) (ix2 (rowOf b t) k) = x0 (ix3 b t k) := fun b t k => by
    rw [entry_tokens, a0]
    exact tokens_apply x0 b t k
  have hq : ∀ b h t d, (V5 m ρ c main_v4_0 : FVec Ideal S4096x2048 .bf16) (ix2 (rowOf b t) (feat h d)) = proj x0 x1 b h t d :=
    fun b h t d => by
      rw [last_q, exit_q, entry_wq, a1]
      exact rows_proj x0 _ ht x1 b h t d
  have hk' : ∀ b h t d, (W2 m ρ c (Proc.devRef .tc main_v4_1) : FVec Ideal S4096x2048 .bf16) (ix2 (rowOf b t) (feat h d)) = proj x0 x2 b h t d :=
    fun b h t d => by
      rw [exit_k, entry_wk, a2]
      exact rows_proj x0 _ ht x2 b h t d
  have hk : ∀ b h t d, (V5 m ρ c main_v4_1 : FVec Ideal S4096x2048 .bf16) (ix2 (rowOf b t) (feat h d)) = proj x0 x2 b h t d :=
    fun b h t d => by
      rw [last_k]
      exact hk' b h t d
  have hv : ∀ b h t d, (V5 m ρ c main_v4_2 : FVec Ideal S4096x2048 .bf16) (ix2 (rowOf b t) (feat h d)) = proj x0 x3 b h t d :=
    fun b h t d => by
      rw [last_v, exit_v, entry_wv, a3]
      exact rows_proj x0 _ ht x3 b h t d
  have hy : ∀ b h t d, (V7 m ρ c main_v18 : FVec Ideal S4096x2048 .bf16) (ix2 (rowOf b t) (feat h d))
      = val_main_v46 (F := Ideal) x0 x1 x2 x3 x5 x6 x7 x8 (ix4 b h t d) := fun b h t d => by
    obtain ⟨w, hs, A⟩ := Cert.Pre_separated.scores_apart x0 x1 x2 x3 x4 x5 x6 x7 x8 H b h
    obtain ⟨s, hsc, hsl⟩ := arr1_6 (V3 m ρ) c
    rw [exit_heads]
    refine heads_apply x0 x1 x2 x3 x5 x6 x7 x8 _ _ _ hq hk hv _ b h w hs A (fun x => ?_) t d
    rw [entry_slot, exit_slot, hsl]
    refine (slot_apply _ (headOf b h) x).trans ?_
    refine slots_real s (headOf b h) w (fun i => ?_) _ (fun i j => upper_apply m ρ c i j) x
    rw [hsc, later_k, entry_w1, entry_w2, entry_b1, entry_b2, a5, a6, a7, a8]
    rw [← hs i, Cert.ReferenceIdeal.Read.v24_apply]
    exact score_eq x0 x2 x5 x6 x7 x8 _ hk' _ (row_apply x6) _ (one_apply x8) b h i
  rw [result_eq, exit_out, entry_wo, a4]
  funext i
  rw [eq_ix3 i]
  exact (split_apply _ (i 0) (i 1) (i 2)).trans (out_apply x0 x1 x2 x3 x4 x5 x6 x7 x8 _ hy (i 0) (i 1) (i 2))

end Cert.Join

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import Idealize.ShloMosaic.Adequacy
public import proofs.«01_k».proof.Proof.Gen.ReferenceIdeal.Run
public import proofs.«01_k».proof.Proof.Gen.ReferenceIdeal.Read
public import proofs.«01_k».proof.Proof.KRun
public import proofs.«01_k».proof.Proof.Result
public import Idealize.ShloMosaic.Init

@[expose] public section

noncomputable section

namespace Cert.Proof

open Idealize.ShloMosaic Idealize.ShloMosaic.TcCoe Idealize.SL.Sem

/-- The kernel terminates with its arguments unchanged and every counter at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

theorem frame_pi_pre : Cert.quiescent_KernelIdeal_pre_separated := fun m ρ _ => Cert.KernelIdeal.Gen.frame m ρ

/-- So does the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_separated := fun m ρ _ => frame_ri m ρ trivial

/-- The one named constant is `1 / √128`. -/
theorem preserves : Cert.preserves_Kernel_KernelIdeal :=
  IdealRules.named_const.statement Cert.KernelIdeal.κ "inv_sqrt_dh" .f32 0x3DB504F3#32 (((Real.sqrt 128)⁻¹ : ℝ) : EReal) rfl

/-- Equal arguments have equal results. -/
theorem value_congr
    {x0 y0 : FVec Ideal Cert.ReferenceIdeal.S2x2048x2048 .f32} (e0 : y0 = x0)
    {x1 y1 : FVec Ideal Cert.ReferenceIdeal.S2048x2048 .f32} (e1 : y1 = x1)
    {x2 y2 : FVec Ideal Cert.ReferenceIdeal.S2048x2048 .f32} (e2 : y2 = x2)
    {x3 y3 : FVec Ideal Cert.ReferenceIdeal.S2048x2048 .f32} (e3 : y3 = x3)
    {x4 y4 : FVec Ideal Cert.ReferenceIdeal.S2048x2048 .f32} (e4 : y4 = x4)
    {x5 y5 : FVec Ideal Cert.ReferenceIdeal.S128x128 .f32} (e5 : y5 = x5)
    {x6 y6 : FVec Ideal Cert.ReferenceIdeal.S128 .f32} (e6 : y6 = x6)
    {x7 y7 : FVec Ideal Cert.ReferenceIdeal.S1x128 .f32} (e7 : y7 = x7)
    {x8 y8 : FVec Ideal Cert.ReferenceIdeal.S1 .f32} (e8 : y8 = x8) :
    Cert.ReferenceIdeal.Read.val_main_v50 (F := Ideal) y0 y1 y2 y3 y4 y5 y6 y7 y8 = Cert.ReferenceIdeal.Read.val_main_v50 (F := Ideal) x0 x1 x2 x3 x4 x5 x6 x7 x8 := by
  subst e0 e1 e2 e3 e4 e5 e6 e7 e8
  rfl

/-- The two idealizations end with the same result from arguments that agree and that the precondition admits. -/
theorem algebraic : Cert.algebraic_KernelIdeal_ReferenceIdeal_pre_separated := fun m g m' g' pre agree =>
  ⟨fun c => Cert.KernelIdeal.Gen.W9 m g c (Proc.devRef .tc Cert.KernelIdeal.main_v21),
    Cert.KernelIdeal.Gen.run m g,
    (θ_run Cert.ReferenceIdeal.defs _ _).mono (fun r h c => ⟨(h c).1.trans
        ((Cert.ReferenceIdeal.Read.val_main_v50_eq _).trans
          ((value_congr (agree c).1 (agree c).2.1 (agree c).2.2.1 (agree c).2.2.2.1 (agree c).2.2.2.2.1 (agree c).2.2.2.2.2.1 (agree c).2.2.2.2.2.2.1 (agree c).2.2.2.2.2.2.2.1 (agree c).2.2.2.2.2.2.2.2).trans
            (Cert.Join.result m g c _ _ _ _ _ _ _ _ _ rfl rfl rfl rfl rfl rfl rfl rfl rfl (pre c)).symm)), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_separated.Gen.facts,
  frame_p, frame_pi, frame_pi_pre, frame_ri, frame_ri_pre, preserves, algebraic⟩

end Cert.Proof

end
